-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28_5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x16384x3 : Shape := ⟨3, ![4, 16384, 3]⟩
abbrev S4x64x16384 : Shape := ⟨3, ![4, 64, 16384]⟩
abbrev S4x16384x1 : Shape := ⟨3, ![4, 16384, 1]⟩
abbrev S4x16384 : Shape := ⟨2, ![4, 16384]⟩
abbrev S4x1x16384 : Shape := ⟨3, ![4, 1, 16384]⟩
abbrev S1x1x512 : Shape := ⟨3, ![1, 1, 512]⟩
abbrev S1x1024x1 : Shape := ⟨3, ![1, 1024, 1]⟩
abbrev S1x1024x512 : Shape := ⟨3, ![1, 1024, 512]⟩
abbrev S1x512 : Shape := ⟨2, ![1, 512]⟩
abbrev S4x8x2048 : Shape := ⟨3, ![4, 8, 2048]⟩
abbrev S2048x1 : Shape := ⟨2, ![2048, 1]⟩
abbrev S4x8 : Shape := ⟨2, ![4, 8]⟩
abbrev S4x8x1 : Shape := ⟨3, ![4, 8, 1]⟩
abbrev S4x1 : Shape := ⟨2, ![4, 1]⟩
abbrev S4x1x1 : Shape := ⟨3, ![4, 1, 1]⟩
abbrev S1x1x1 : Shape := ⟨3, ![1, 1, 1]⟩
abbrev S1x1 : Shape := ⟨2, ![1, 1]⟩
abbrev S1x2048x1 : Shape := ⟨3, ![1, 2048, 1]⟩
abbrev S4x2048x1 : Shape := ⟨3, ![4, 2048, 1]⟩
abbrev S4x2048 : Shape := ⟨2, ![4, 2048]⟩

abbrev nBuf : Space → Nat
  | .hbm => 30
  | .vmem => 22
  | .smem => 0
  | _ => 0

abbrev bufTy : (tb : Table) → Fin (tcTables nBuf tb) → BufTy
  | .hbm, ⟨0, _⟩ => ⟨S4x16384x3, .f32⟩
  | .hbm, ⟨1, _⟩ => ⟨S4x64x16384, .f32⟩
  | .hbm, ⟨2, _⟩ => ⟨S4x16384x1, .f32⟩
  | .hbm, ⟨3, _⟩ => ⟨S4x16384, .f32⟩
  | .hbm, ⟨4, _⟩ => ⟨S4x16384x1, .f32⟩
  | .hbm, ⟨5, _⟩ => ⟨S4x16384, .f32⟩
  | .hbm, ⟨6, _⟩ => ⟨S4x16384x1, .f32⟩
  | .hbm, ⟨7, _⟩ => ⟨S4x16384, .f32⟩
  | .hbm, ⟨8, _⟩ => ⟨S4x1x16384, .f32⟩
  | .hbm, ⟨9, _⟩ => ⟨S4x1x16384, .f32⟩
  | .hbm, ⟨10, _⟩ => ⟨S4x1x16384, .f32⟩
  | .hbm, ⟨11, _⟩ => ⟨S4x16384x1, .f32⟩
  | .hbm, ⟨12, _⟩ => ⟨S4x16384x1, .f32⟩
  | .hbm, ⟨13, _⟩ => ⟨S4x16384x1, .f32⟩
  | .hbm, ⟨14, _⟩ => ⟨S4x1x16384, .f32⟩
  | .hbm, ⟨15, _⟩ => ⟨S4x16384, .f32⟩
  | .hbm, ⟨16, _⟩ => ⟨S4x8x2048, .f32⟩
  | .hbm, ⟨17, _⟩ => ⟨S4x8x2048, .f32⟩
  | .hbm, ⟨18, _⟩ => ⟨S4x8x2048, .f32⟩
  | .hbm, ⟨19, _⟩ => ⟨S4x8x2048, .f32⟩
  | .hbm, ⟨20, _⟩ => ⟨S2048x1, .i32⟩
  | .hbm, ⟨21, _⟩ => ⟨S2048x1, .i32⟩
  | .hbm, ⟨22, _⟩ => ⟨S2048x1, .i32⟩
  | .hbm, ⟨23, _⟩ => ⟨S2048x1, .i32⟩
  | .hbm, ⟨24, _⟩ => ⟨S1x2048x1, .i32⟩
  | .hbm, ⟨25, _⟩ => ⟨S1x2048x1, .i32⟩
  | .hbm, ⟨26, _⟩ => ⟨S1x2048x1, .i32⟩
  | .hbm, ⟨27, _⟩ => ⟨S1x2048x1, .i32⟩
  | .hbm, ⟨28, _⟩ => ⟨S4x2048x1, .i32⟩
  | .hbm, ⟨29, _⟩ => ⟨S4x2048, .i32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1024x1, .f32⟩
  | .local _ .vmem, ⟨7, _⟩ => ⟨S1x1024x1, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x1, .f32⟩
  | .local _ .vmem, ⟨11, _⟩ => ⟨S1x1024x1, .f32⟩
  | .local _ .vmem, ⟨12, _⟩ => ⟨S1x1x512, .f32⟩
  | .local _ .vmem, ⟨13, _⟩ => ⟨S1x1x512, .f32⟩
  | .local _ .vmem, ⟨14, _⟩ => ⟨S4x8x2048, .f32⟩
  | .local _ .vmem, ⟨15, _⟩ => ⟨S4x8x2048, .f32⟩
  | .local _ .vmem, ⟨16, _⟩ => ⟨S4x8x2048, .f32⟩
  | .local _ .vmem, ⟨17, _⟩ => ⟨S4x8x2048, .f32⟩
  | .local _ .vmem, ⟨18, _⟩ => ⟨S2048x1, .i32⟩
  | .local _ .vmem, ⟨19, _⟩ => ⟨S2048x1, .i32⟩
  | .local _ .vmem, ⟨20, _⟩ => ⟨S2048x1, .i32⟩
  | .local _ .vmem, ⟨21, _⟩ => ⟨S2048x1, .i32⟩
  | _, _ => ⟨S4x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18_0 : Ref sig .tc := ⟨.hbm, 20, rfl⟩
abbrev main_v18_1 : Ref sig .tc := ⟨.hbm, 21, rfl⟩
abbrev main_v18_2 : Ref sig .tc := ⟨.hbm, 22, rfl⟩
abbrev main_v18_3 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21

abbrev nD : Nat := 1
abbrev τ : Topo := Topo.v7x

variable {F : FTy → Type} [FloatOps F]

abbrev grid0 : Pipeline.Grid := ⟨3, ![4, 32, 16], ![false, false, false]⟩

def k0_cond1 (i : grid0.Coords) : BitVec 1 :=
  let arg2 : BitVec 32 := BitVec.ofNat 32 (i 2).val
  let c0_i32 : BitVec 32 := 0#32
  let v33 : BitVec 1 := Scalar.cmpi .eq arg2 c0_i32
  let v34 : BitVec 32 := Scalar.extui v33
  let c0_i32_20 : BitVec 32 := 0#32
  let v35 : BitVec 1 := Scalar.cmpi .ne v34 c0_i32_20
  v35

def k0_cond2 (i : grid0.Coords) : BitVec 1 :=
  let arg2 : BitVec 32 := BitVec.ofNat 32 (i 2).val
  let c0_i32_21 : BitVec 32 := 0#32
  let v36 : BitVec 1 := Scalar.cmpi .sgt arg2 c0_i32_21
  let v37 : BitVec 32 := Scalar.extui v36
  let c0_i32_22 : BitVec 32 := 0#32
  let v38 : BitVec 1 := Scalar.cmpi .ne v37 c0_i32_22
  v38

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := .none

@[reducible] def k1_t1_loop : Scf.Loop 32 :=
  let c1_i32 : BitVec 32 := 1#32
  let c2047_i32 : BitVec 32 := 2047#32
  let v41 : BitVec 32 := Scalar.addi c1_i32 c2047_i32
  let c1_i32_23 : BitVec 32 := 1#32
  ⟨c1_i32, v41, c1_i32_23⟩
def k1_off1 (k1_t1 : Fin k1_t1_loop.trips) : Fin 2 → Nat :=
  let c1_i32 : BitVec 32 := 1#32
  let c1_i32_23 : BitVec 32 := 1#32
  let arg8 : BitVec 32 := Scf.iv c1_i32 c1_i32_23 k1_t1
  let v89 : Index := Scalar.indexCast arg8
  let c0_38 : Index := 0#32
  ![v89.toNat, 0]
abbrev stage1_0 : Fin 1 → Memref sig .tc .vmem S4x8x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x8x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x8x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4x8x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2048x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2048x1 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S2048x1 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S2048x1 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
-- ==== ReferenceIdeal.lean ====
abbrev S4x16384x3 : Shape := ⟨3, ![4, 16384, 3]⟩
abbrev S4x64x16384 : Shape := ⟨3, ![4, 64, 16384]⟩
abbrev S_ : Shape := ⟨0, ![]⟩
abbrev S3 : Shape := ⟨1, ![3]⟩
abbrev S4x16384x1x3 : Shape := ⟨4, ![4, 16384, 1, 3]⟩
abbrev S4x1x16384x3 : Shape := ⟨4, ![4, 1, 16384, 3]⟩
abbrev S4x16384x16384x3 : Shape := ⟨4, ![4, 16384, 16384, 3]⟩
abbrev S4x16384x16384 : Shape := ⟨3, ![4, 16384, 16384]⟩
abbrev S4x16384 : Shape := ⟨2, ![4, 16384]⟩
abbrev S4 : Shape := ⟨1, ![4]⟩
abbrev S4x1 : Shape := ⟨2, ![4, 1]⟩
abbrev S4x2048 : Shape := ⟨2, ![4, 2048]⟩
abbrev S4x1x3 : Shape := ⟨3, ![4, 1, 3]⟩
abbrev S1x1x3 : Shape := ⟨3, ![1, 1, 3]⟩
abbrev S4x1x1 : Shape := ⟨3, ![4, 1, 1]⟩

abbrev nBuf : Space → Nat
  | .hbm => 86
  | .vmem => 0
  | .smem => 0
  | _ => 0

abbrev bufTy : (tb : Table) → Fin (tcTables nBuf tb) → BufTy
  | .hbm, ⟨0, _⟩ => ⟨S4x16384x3, .f32⟩
  | .hbm, ⟨1, _⟩ => ⟨S4x64x16384, .f32⟩
  | .hbm, ⟨2, _⟩ => ⟨S_, .f32⟩
  | .hbm, ⟨3, _⟩ => ⟨S3, .f32⟩
  | .hbm, ⟨4, _⟩ => ⟨S4x16384x1x3, .f32⟩
  | .hbm, ⟨5, _⟩ => ⟨S4x1x16384x3, .f32⟩
  | .hbm, ⟨6, _⟩ => ⟨S4x16384x16384x3, .f32⟩
  | .hbm, ⟨7, _⟩ => ⟨S4x16384x16384x3, .f32⟩
  | .hbm, ⟨8, _⟩ => ⟨S4x16384x16384x3, .f32⟩
  | .hbm, ⟨9, _⟩ => ⟨S4x16384x16384x3, .f32⟩
  | .hbm, ⟨10, _⟩ => ⟨S_, .f32⟩
  | .hbm, ⟨11, _⟩ => ⟨S4x16384x16384, .f32⟩
  | .hbm, ⟨12, _⟩ => ⟨S_, .f32⟩
  | .hbm, ⟨13, _⟩ => ⟨S4x16384x16384, .f32⟩
  | .hbm, ⟨14, _⟩ => ⟨S4x16384x16384, .i1⟩
  | .hbm, ⟨15, _⟩ => ⟨S4x16384x16384, .i32⟩
  | .hbm, ⟨16, _⟩ => ⟨S_, .i32⟩
  | .hbm, ⟨17, _⟩ => ⟨S4x16384, .i32⟩
  | .hbm, ⟨18, _⟩ => ⟨S4x16384, .f32⟩
  | .hbm, ⟨19, _⟩ => ⟨S_, .f32⟩
  | .hbm, ⟨20, _⟩ => ⟨S4, .f32⟩
  | .hbm, ⟨21, _⟩ => ⟨S4x1, .f32⟩
  | .hbm, ⟨22, _⟩ => ⟨S4x16384, .f32⟩
  | .hbm, ⟨23, _⟩ => ⟨S4x16384, .f32⟩
  | .hbm, ⟨24, _⟩ => ⟨S_, .f32⟩
  | .hbm, ⟨25, _⟩ => ⟨S4x16384, .f32⟩
  | .hbm, ⟨26, _⟩ => ⟨S4x16384, .f32⟩
  | .hbm, ⟨27, _⟩ => ⟨S_, .i32⟩
  | .hbm, ⟨28, _⟩ => ⟨S4x2048, .i32⟩
  | .hbm, ⟨29, _⟩ => ⟨S4x1x3, .f32⟩
  | .hbm, ⟨30, _⟩ => ⟨S4x16384x3, .f32⟩
  | .hbm, ⟨31, _⟩ => ⟨S4x16384x3, .f32⟩
  | .hbm, ⟨32, _⟩ => ⟨S4x16384x3, .f32⟩
  | .hbm, ⟨33, _⟩ => ⟨S1x1x3, .f32⟩
  | .hbm, ⟨34, _⟩ => ⟨S4x16384x3, .f32⟩
  | .hbm, ⟨35, _⟩ => ⟨S4x16384x3, .f32⟩
  | .hbm, ⟨36, _⟩ => ⟨S_, .f32⟩
  | .hbm, ⟨37, _⟩ => ⟨S4x16384, .f32⟩
  | .hbm, ⟨38, _⟩ => ⟨S_, .i32⟩
  | .hbm, ⟨39, _⟩ => ⟨S_, .i32⟩
  | .hbm, ⟨40, _⟩ => ⟨S4x16384, .f32⟩
  | .hbm, ⟨41, _⟩ => ⟨S4x16384x3, .f32⟩
  | .hbm, ⟨42, _⟩ => ⟨S3, .f32⟩
  | .hbm, ⟨43, _⟩ => ⟨S_, .i32⟩
  | .hbm, ⟨44, _⟩ => ⟨S_, .i32⟩
  | .hbm, ⟨45, _⟩ => ⟨S4x2048, .i32⟩
  | .hbm, ⟨46, _⟩ => ⟨S4x16384, .f32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S4x16384, .f32⟩
  | .hbm, ⟨52, _⟩ => ⟨S4x16384, .i32⟩
  | .hbm, ⟨53, _⟩ => ⟨S_, .f32⟩
  | .hbm, ⟨54, _⟩ => ⟨S_, .i32⟩
  | .hbm, ⟨55, _⟩ => ⟨S4, .f32⟩
  | .hbm, ⟨56, _⟩ => ⟨S4, .i32⟩
  | .hbm, ⟨57, _⟩ => ⟨S4x1, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S4x2048, .i32⟩
  | .hbm, ⟨66, _⟩ => ⟨S4x1x1, .i32⟩
  | .hbm, ⟨67, _⟩ => ⟨S_, .i32⟩
  | .hbm, ⟨68, _⟩ => ⟨S4x1x1, .i32⟩
  | .hbm, ⟨69, _⟩ => ⟨S4x1x1, .i1⟩
  | .hbm, ⟨70, _⟩ => ⟨S_, .i32⟩
  | .hbm, ⟨71, _⟩ => ⟨S4x1x1, .i32⟩
  | .hbm, ⟨72, _⟩ => ⟨S4x1x1, .i32⟩
  | .hbm, ⟨73, _⟩ => ⟨S4x1x1, .i32⟩
  | .hbm, ⟨74, _⟩ => ⟨S4x1x3, .f32⟩
  | .hbm, ⟨75, _⟩ => ⟨S4x16384x3, .f32⟩
  | .hbm, ⟨76, _⟩ => ⟨S4x16384x3, .f32⟩
  | .hbm, ⟨77, _⟩ => ⟨S4x16384x3, .f32⟩
  | .hbm, ⟨78, _⟩ => ⟨S1x1x3, .f32⟩
  | .hbm, ⟨79, _⟩ => ⟨S4x16384x3, .f32⟩
  | .hbm, ⟨80, _⟩ => ⟨S4x16384x3, .f32⟩
  | .hbm, ⟨81, _⟩ => ⟨S_, .f32⟩
  | .hbm, ⟨82, _⟩ => ⟨S4x16384, .f32⟩
  | .hbm, ⟨83, _⟩ => ⟨S4x16384, .f32⟩
  | .hbm, ⟨84, _⟩ => ⟨S_, .i32⟩
  | .hbm, ⟨85, _⟩ => ⟨S_, .i32⟩
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_c_6 : Ref sig .tc := ⟨.hbm, 38, rfl⟩
abbrev main_c_7 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v28_3 : Ref sig .tc := ⟨.hbm, 43, rfl⟩
abbrev main_v28_4 : Ref sig .tc := ⟨.hbm, 44, rfl⟩
abbrev main_v28_5 : Ref sig .tc := ⟨.hbm, 45, rfl⟩
abbrev main_v28_6 : Ref sig .tc := ⟨.hbm, 46, rfl⟩
abbrev main_while0c_c_14 : Ref sig .tc := ⟨.hbm, 47, rfl⟩
abbrev main_while0c_v29 : Ref sig .tc := ⟨.hbm, 48, rfl⟩
abbrev main_while0b_c_14 : Ref sig .tc := ⟨.hbm, 49, rfl⟩
abbrev main_while0b_v29 : Ref sig .tc := ⟨.hbm, 50, rfl⟩
abbrev main_while0b_v30 : Ref sig .tc := ⟨.hbm, 51, rfl⟩
abbrev main_while0b_call0_v0 : Ref sig .tc := ⟨.hbm, 52, rfl⟩
abbrev main_while0b_call0_cst : Ref sig .tc := ⟨.hbm, 53, rfl⟩
abbrev main_while0b_call0_c : Ref sig .tc := ⟨.hbm, 54, rfl⟩
abbrev main_while0b_call0_v1_0 : Ref sig .tc := ⟨.hbm, 55, rfl⟩
abbrev main_while0b_v31 : Ref sig .tc := ⟨.hbm, 56, rfl⟩
abbrev main_while0b_v32 : Ref sig .tc := ⟨.hbm, 57, rfl⟩
abbrev main_while0b_c_15 : Ref sig .tc := ⟨.hbm, 58, rfl⟩
abbrev main_while0b_v33 : Ref sig .tc := ⟨.hbm, 59, rfl⟩
abbrev main_while0b_v34 : Ref sig .tc := ⟨.hbm, 60, rfl⟩
abbrev main_while0b_c_16 : Ref sig .tc := ⟨.hbm, 61, rfl⟩
abbrev main_while0b_v35 : Ref sig .tc := ⟨.hbm, 62, rfl⟩
abbrev main_while0b_v36 : Ref sig .tc := ⟨.hbm, 63, rfl⟩
abbrev main_while0b_c_17 : Ref sig .tc := ⟨.hbm, 64, rfl⟩
abbrev main_while0b_v37 : Ref sig .tc := ⟨.hbm, 65, rfl⟩
abbrev main_while0b_v38 : Ref sig .tc := ⟨.hbm, 66, rfl⟩
abbrev main_while0b_call1_c : Ref sig .tc := ⟨.hbm, 67, rfl⟩
abbrev main_while0b_call1_v0 : Ref sig .tc := ⟨.hbm, 68, rfl⟩
abbrev main_while0b_call1_v1 : Ref sig .tc := ⟨.hbm, 69, rfl⟩
abbrev main_while0b_call1_c_0 : Ref sig .tc := ⟨.hbm, 70, rfl⟩
abbrev main_while0b_call1_v2 : Ref sig .tc := ⟨.hbm, 71, rfl⟩
abbrev main_while0b_call1_v3 : Ref sig .tc := ⟨.hbm, 72, rfl⟩
abbrev main_while0b_call1_v4 : Ref sig .tc := ⟨.hbm, 73, rfl⟩
abbrev main_while0b_v39 : Ref sig .tc := ⟨.hbm, 74, rfl⟩
abbrev main_while0b_v40 : Ref sig .tc := ⟨.hbm, 75, rfl⟩
abbrev main_while0b_v41 : Ref sig .tc := ⟨.hbm, 76, rfl⟩
abbrev main_while0b_v42 : Ref sig .tc := ⟨.hbm, 77, rfl⟩
abbrev main_while0b_v43 : Ref sig .tc := ⟨.hbm, 78, rfl⟩
abbrev main_while0b_v44 : Ref sig .tc := ⟨.hbm, 79, rfl⟩
abbrev main_while0b_v45 : Ref sig .tc := ⟨.hbm, 80, rfl⟩
abbrev main_while0b_cst_18 : Ref sig .tc := ⟨.hbm, 81, rfl⟩
abbrev main_while0b_v46 : Ref sig .tc := ⟨.hbm, 82, rfl⟩
abbrev main_while0b_v47 : Ref sig .tc := ⟨.hbm, 83, rfl⟩
abbrev main_while0b_c_19 : Ref sig .tc := ⟨.hbm, 84, rfl⟩
abbrev main_while0b_v48 : Ref sig .tc := ⟨.hbm, 85, rfl⟩

abbrev nD : Nat := 1
abbrev τ : Topo := Topo.v7x

variable {F : FTy → Type} [FloatOps F]

abbrev main_while0_count : Scf.Loop 32 := ⟨0#32, 2047#32, 1#32⟩
-- ==== Proof.KernelIdeal.Density.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! # The density call: what one grid point leaves in its block of counts -/

/-- Window `w`'s block at point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two conditions of the body, in closed form over the grid points. -/
abbrev first0 (i : grid0.Coords) : Prop := k0_cond1 i = 1#1
abbrev later0 (i : grid0.Coords) : Prop := k0_cond2 i = 1#1
theorem first0_iff : ∀ t : Fin cfg0.N, first0 (grid0.coords t) ↔ t.val % 16 = 0 :=
  (by decide +kernel : ∀ t : Fin grid0.N, first0 (grid0.coords t) ↔ t.val % 16 = 0)
theorem later0_iff : ∀ t : Fin cfg0.N, later0 (grid0.coords t) ↔ 1 ≤ t.val % 16 :=
  (by decide +kernel : ∀ t : Fin grid0.N, later0 (grid0.coords t) ↔ 1 ≤ t.val % 16)

/-- Every input window is used at every point. -/
theorem live0 : ∀ w : Fin cfg0.W, w.val < 6 → ∀ t : Fin cfg0.N, cfg0.idle w (grid0.coords t) = false
  | 0, _, _ | 1, _, _ | 2, _, _ | 3, _, _ | 4, _, _ | 5, _, _ => rfl
  | 6, h, _ => absurd h (by decide)
/-- The output window is stored into at every point. -/
theorem live0_6 : ∀ t : Fin cfg0.N, cfg0.idle 6 (grid0.coords t) = false := by decide +kernel

/-- Whether the output buffer holds nothing of the current block yet: at every sixteenth point. -/
def fresh0_6 : ℕ → Bool := fun n => n % 16 == 0
theorem fresh0_6_step : ∀ t : Fin cfg0.N,
    fresh0_6 (t.val + 1) = ((cfg0.win 6).flush t || (cfg0.idle 6 (cfg0.grid.coords t) && fresh0_6 t.val)) := by decide +kernel
theorem fresh0_6_eq (t : Fin cfg0.N) : cfg0.fresh 6 t.val = fresh0_6 t.val :=
  Pipeline.Cfg.fresh_tab cfg0 6 fresh0_6 rfl fresh0_6_step t.val (Nat.le_of_lt t.isLt)

/-! ## Loads and stores through a whole block -/

theorem zero3 : (![0, 0, 0] : Fin 3 → ℕ) = fun _ => 0 := by
  funext a; fin_cases a <;> rfl
theorem ld_row (x : Vec F S1x1x512 .f32) :
    View.ld x (Rect.unit (s := S1x1x512) ![0, 0, 0] ![1, 1, 512] inb_S1x1x512_S1x1x512_0_0_0) = x :=
  View.ld_unit_zero zero3 _ x
theorem ld_col (x : Vec F S1x1024x1 .f32) :
    View.ld x (Rect.unit (s := S1x1024x1) ![0, 0, 0] ![1, 1024, 1] inb_S1x1024x1_S1x1024x1_0_0_0) = x :=
  View.ld_unit_zero zero3 _ x
/-- One store through the whole block leaves its payload. -/
theorem canon_block (p : Vec F S1x1x512 .f32) :
    View.canon [(⟨Rect.unit (s := S1x1x512) ![0, 0, 0] ![1, 1, 512] inb_S1x1x512_S1x1x512_0_0_0, p⟩ : View.Piece (Elt F) S1x1x512 .f32)] = p :=
  View.canon_unit_zero zero3 _ p
theorem whole_cover {p : Vec F S1x1x512 .f32} (y : S1x1x512.Idx) :
    ∃ pc ∈ ([⟨Rect.unit (s := S1x1x512) ![0, 0, 0] ![1, 1, 512] inb_S1x1x512_S1x1x512_0_0_0, p⟩] : List (View.Piece (Elt F) S1x1x512 .f32)), y ∈ pc.1.set :=
  View.cover_of_tiled [(⟨Rect.unit (s := S1x1x512) ![0, 0, 0] ![1, 1, 512] inb_S1x1x512_S1x1x512_0_0_0, p⟩ : View.Piece (Elt F) S1x1x512 .f32)] S1x1x512.size (by rfl) y

/-- The number of a column block's points close to each point of a row block. -/
abbrev cnt0 (x0 x1 x2 : Vec F S1x1x512 .f32) (x3 x4 x5 : Vec F S1x1024x1 .f32) : Vec F S1x1x512 .f32 := k0_pay2 x3 x0 x4 x1 x5 x2

set_option maxHeartbeats 1000000 in
/-- At the first block of columns the body leaves `cnt0 x0 x1 x2 x3 x4 x5` in the output block and its inputs as they were. -/
theorem body0_A (c : Dev nD) (E : Set ℕ) (i : grid0.Coords) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1x512 .f32) (harg9 : arg9.IsWhole)
    (hc0 : first0 i) (hc1 : ¬later0 i) (x0 x1 x2 : Vec F S1x1x512 .f32) (x3 x4 x5 : Vec F S1x1024x1 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (cnt0 x0 x1 x2 x3 x4 x5)) -∗ K ⟨⟩))
      ⊢ wp frame (wpE (defs₀ (F := F)) Variants.none c none) E (cc0__density_kernel i arg3 harg3 arg4 harg4 arg5 harg5 arg6 harg6 arg7 harg7 arg8 harg8 arg9 harg9) K := by
  simp only [cc0__density_kernel_eq_skeleton]; unfold cc0__density_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ whole_cover).trans ?_
  rw [canon_block]
  delta body0_A.sl.r
  simp only [View.readAt_eq_ld, ld_row, ld_col]

set_option maxHeartbeats 1000000 in
/-- At a later block of columns the body leaves `k0_pay1 (cnt0 x0 x1 x2 x3 x4 x5) xo` in the output block and its inputs as they were. -/
theorem body0_B (c : Dev nD) (E : Set ℕ) (i : grid0.Coords) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1x512 .f32) (harg9 : arg9.IsWhole)
    (hc0 : ¬first0 i) (hc1 : later0 i) (x0 x1 x2 : Vec F S1x1x512 .f32) (x3 x4 x5 : Vec F S1x1024x1 .f32) (xo : Vec F S1x1x512 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (k0_pay1 (cnt0 x0 x1 x2 x3 x4 x5) xo)) -∗ K ⟨⟩))
      ⊢ wp frame (wpE (defs₀ (F := F)) Variants.none c none) E (cc0__density_kernel i arg3 harg3 arg4 harg4 arg5 harg5 arg6 harg6 arg7 harg7 arg8 harg8 arg9 harg9) K := by
  simp only [cc0__density_kernel_eq_skeleton]; unfold cc0__density_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ whole_cover).trans ?_
  rw [canon_block]
  delta body0_B.sl.r
  simp only [View.readAt_eq_ld, ld_row, ld_col]

/-! ## The counts, point by point -/

/-- What the output block holds after grid position `n`: the counts of the column blocks seen so far, begun afresh at
    every sixteenth position. -/
def acc0 (c : Dev nD) : (n : ℕ) → n < cfg0.N → Vec F S1x1x512 .f32
  | 0, hn => cnt0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn =>
    if (n + 1) % 16 = 0 then cnt0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)
    else k0_pay1 (cnt0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)) (acc0 c n (Nat.lt_of_succ_lt hn))

theorem acc0_A (c : Dev nD) (t : Fin cfg0.N) (h : t.val % 16 = 0) :
    acc0 V c t.val t.isLt = cnt0 (iblk0 V c 0 t) (iblk0 V c 1 t) (iblk0 V c 2 t) (iblk0 V c 3 t) (iblk0 V c 4 t) (iblk0 V c 5 t) := by
  obtain ⟨n, hn⟩ := t
  cases n with
  | zero => rfl
  | succ n => exact if_pos h

theorem acc0_B (c : Dev nD) (t : Fin cfg0.N) (h : ¬t.val % 16 = 0) :
    acc0 V c t.val t.isLt = k0_pay1 (cnt0 (iblk0 V c 0 t) (iblk0 V c 1 t) (iblk0 V c 2 t) (iblk0 V c 3 t) (iblk0 V c 4 t) (iblk0 V c 5 t)) (acc0 V c (t.val - 1) (Nat.lt_of_le_of_lt (Nat.sub_le _ _) t.isLt)) := by
  obtain ⟨n, hn⟩ := t
  cases n with
  | zero => exact absurd (Nat.zero_mod _) h
  | succ n => exact if_neg h

/-- The proof data of the density call: inputs keep their blocks, the output block holds `acc0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = acc0 V c t.val t.isLt := by dsimp only [dat0]

/-- An input's buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- At a point after the first of its row block, the output buffer holds what the point before left. -/
theorem before0_6 (c : Dev nD) (t : Fin cfg0.N) (h : ¬t.val % 16 = 0) (d) :
    (dat0 V c).before 6 t d = acc0 V c (t.val - 1) (Nat.lt_of_le_of_lt (Nat.sub_le _ _) t.isLt) := by
  rw [Dat.before_out_traj _ 6 rfl (fun _ _ => rfl)
      (fun t _ hi _ => absurd hi (by rw [show cfg0.idle 6 (cfg0.grid.coords t) = false from live0_6 t]; exact Bool.false_ne_true)) t.val t rfl d,
    if_neg (by rw [fresh0_6_eq t]; simpa [fresh0_6] using h)]
  dsimp only [dat0]

/-- What the body is entered with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ (dat0 V c).leavesExact 6 t)

set_option maxHeartbeats 800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5,
    show (dat0 V c).leavesExact 6 t = owns (c : Thread nD τ) (st0_6 t) fullShare ((dat0 V c).after 6 t) from by
      unfold Dat.leavesExact; rw [live0_6 t], after0_6]
  by_cases h0 : t.val % 16 = 0
  · rw [acc0_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body0_A c Set.univ (grid0.coords t) _ _ _ _ _ _ _ _ _ _ _ _ _ _ ((first0_iff t).mpr h0) (fun h => by have := (later0_iff t).mp h; omega) (iblk0 V c 0 t) (iblk0 V c 1 t) (iblk0 V c 2 t) (iblk0 V c 3 t) (iblk0 V c 4 t) (iblk0 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc0_B V c t h0]
    simp only [before0_6 V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body0_B c Set.univ (grid0.coords t) _ _ _ _ _ _ _ _ _ _ _ _ _ _ (fun h => h0 ((first0_iff t).mp h)) ((later0_iff t).mpr (by omega)) (iblk0 V c 0 t) (iblk0 V c 1 t) (iblk0 V c 2 t) (iblk0 V c 3 t) (iblk0 V c 4 t) (iblk0 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row0 (t : Fin cfg0.N) :
    defs₀ (F := F) .tc cfg0.body (cfg0.bodyArgs t (cfg0.slots t)) = bodyAt0 t := by
  unfold defs₀; rw [Defs.onTc_tc]

/-- The body meets its obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl
    .rfl fun _ => .rfl

end Regions

end Cert.KernelIdeal.Hand

end
-- ==== Proof.KernelIdeal.Fps.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.TableIdle
public import Idealize.ShloMosaic.Lib.Pipeline.Value
public import Idealize.ShloMosaic.Lib.Pointwise
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The sampling call: what its one grid point leaves in the four columns of indices -/

/-- The index each batch picks, from the distances to the points picked before. -/
def pick (x0 x1 x2 x3 : Vec F S4x8x2048 .f32) (d : FVec F S4x8x2048 .f32) : IVec S4x1x1 32 :=
  k1_pay7 (k1_pay13 x3) k1_pay14 d

/-- The distances to the points picked so far, `n` picks after the first. -/
def dist (x0 x1 x2 x3 : Vec F S4x8x2048 .f32) : ℕ → FVec F S4x8x2048 .f32
  | 0 => k1_pay1 (k1_pay10 x0) (k1_pay11 x1) (k1_pay12 x2) (k1_pay19 x0) (k1_pay20 x1)
  | n + 1 => k1_pay6 (dist x0 x1 x2 x3 n)
      (k1_pay8 (k1_pay10 x0) (k1_pay11 x1) (k1_pay12 x2) (k1_pay13 x3) k1_pay14 (dist x0 x1 x2 x3 n))

/-- The column of batch `b`: row 0 is 0, row `n + 1` the pick from the distances after `n` picks. -/
def column (x0 x1 x2 x3 : Vec F S4x8x2048 .f32) (b : Fin 4) : Vec F S2048x1 .i32 := fun y =>
  if (y 0).val = 0 then (0#32 : BitVec 32) else pick x0 x1 x2 x3 (dist x0 x1 x2 x3 ((y 0).val - 1)) (ix3 b 0 0)

/-! ## Rows written one at a time over a column of zeros -/

theorem row_not_mem (k : Fin k1_t1_loop.trips) (y : S2048x1.Idx) (h : ¬(y 0).val = k.val + 1) :
    y ∉ (Rect.unit (s := S2048x1) (k1_off1 k) S1x1.size (k1_off1_inb k)).set := by
  rw [Rect.mem_set_unit]
  intro hm
  have h0 := hm 0
  rw [k1_off1_eq] at h0
  change k.val + 1 ≤ (y 0).val ∧ (y 0).val < k.val + 1 + 1 at h0
  omega

/-- Rows `1 … n` written over a column of zeros: row 0 and the rows past `n` still hold 0. -/
theorem canon_rows (G : ℕ → Vec F S1x1 .i32) (L : ℕ → List (View.Piece (Elt F) S2048x1 .i32)) (L₀ : List (View.Piece (Elt F) S2048x1 .i32))
    (hL0 : L 0 = [])
    (hL : ∀ k : Fin k1_t1_loop.trips, L (k.val + 1)
      = (⟨Rect.unit (s := S2048x1) (k1_off1 k) S1x1.size (k1_off1_inb k), G k.val⟩ : View.Piece (Elt F) S2048x1 .i32) :: L k.val) :
    ∀ n, n ≤ k1_t1_loop.trips → ∀ y : S2048x1.Idx,
      View.canon (L n ++ L₀) y = if (y 0).val = 0 ∨ n < (y 0).val then View.canon L₀ y else G ((y 0).val - 1) (ix2 0 0)
  | 0, _, y => by
    rw [hL0, List.nil_append, if_pos (by omega)]
  | n + 1, hn, y => by
    have e := hL ⟨n, hn⟩
    rw [show L (n + 1) = _ from e, List.cons_append]
    have hoff := k1_off1_eq ⟨n, hn⟩
    by_cases h : (y 0).val = n + 1
    · have hy : y = (Rect.unit (s := S2048x1) (k1_off1 ⟨n, hn⟩) S1x1.size (k1_off1_inb ⟨n, hn⟩)).emb (ix2 0 0) := by
        funext a
        fin_cases a
        · refine Fin.ext ?_
          change (y 0).val = k1_off1 ⟨n, hn⟩ 0 + 1 * 0
          rw [hoff, h]; rfl
        · refine Fin.ext ?_
          change (y 1).val = k1_off1 ⟨n, hn⟩ 1 + 1 * 0
          have : (y 1).val < 1 := (y 1).isLt
          rw [hoff]; change (y 1).val = 0; omega
      rw [if_neg (by omega), h]
      conv_lhs => rw [hy]
      exact View.canon_cons_emb _ _ _ _
    · refine (View.canon_cons_of_not_mem _ _ ?_).trans ?_
      · exact row_not_mem ⟨n, hn⟩ y h
      rw [canon_rows G L L₀ hL0 hL n (Nat.le_of_succ_le hn) y]
      by_cases h' : (y 0).val = 0 ∨ n < (y 0).val
      · rw [if_pos h', if_pos (by omega)]
      · rw [if_neg h', if_neg (by omega)]

/-! ## One trip -/

section Trip
variable (c : Dev nD) (arg0 : Memref sig .tc .vmem S4x8x2048 .f32) (harg0 : arg0.IsWhole) (arg1 : Memref sig .tc .vmem S4x8x2048 .f32) (harg1 : arg1.IsWhole) (arg2 : Memref sig .tc .vmem S4x8x2048 .f32) (harg2 : arg2.IsWhole) (arg3 : Memref sig .tc .vmem S4x8x2048 .f32) (harg3 : arg3.IsWhole) (arg4 : Memref sig .tc .vmem S2048x1 .i32) (harg4 : arg4.IsWhole) (arg5 : Memref sig .tc .vmem S2048x1 .i32) (harg5 : arg5.IsWhole) (arg6 : Memref sig .tc .vmem S2048x1 .i32) (harg6 : arg6.IsWhole) (arg7 : Memref sig .tc .vmem S2048x1 .i32) (harg7 : arg7.IsWhole) (v1 v3 v5 v13 : FVec F S4x8x2048 .f32) (v18 : IVec S4x8x2048 32)
  (k : Fin k1_t1_loop.trips) (acc : FVec F S4x8x2048 .f32)

theorem trip_acc : tripR_k1_t1 (F := F) Variants.none c none arg0 harg0 arg1 harg1 arg2 harg2 arg3 harg3 arg4 harg4 arg5 harg5 arg6 harg6 arg7 harg7 v1 v3 v5 v13 v18 k acc = k1_pay6 acc (k1_pay8 v1 v3 v5 v13 v18 acc) := by
  unfold tripR_k1_t1 trip_k1_t1
  rfl

theorem trip_pieces : tripL_k1_t1 (F := F) Variants.none c none arg0 harg0 arg1 harg1 arg2 harg2 arg3 harg3 arg4 harg4 arg5 harg5 arg6 harg6 arg7 harg7 v1 v3 v5 v13 v18 k acc
    = ([⟨Rect.unit (s := S2048x1) (k1_off1 k) S1x1.size (k1_off1_inb k), k1_pay2 (k1_pay9 v13 v18 acc)⟩],
       [⟨Rect.unit (s := S2048x1) (k1_off1 k) S1x1.size (k1_off1_inb k), k1_pay3 (k1_pay7 v13 v18 acc)⟩],
       [⟨Rect.unit (s := S2048x1) (k1_off1 k) S1x1.size (k1_off1_inb k), k1_pay4 (k1_pay7 v13 v18 acc)⟩],
       [⟨Rect.unit (s := S2048x1) (k1_off1 k) S1x1.size (k1_off1_inb k), k1_pay5 (k1_pay7 v13 v18 acc)⟩]) := by
  unfold tripL_k1_t1 trip_k1_t1
  rfl

end Trip

section Body
variable (c : Dev nD) (arg0 : Memref sig .tc .vmem S4x8x2048 .f32) (harg0 : arg0.IsWhole) (arg1 : Memref sig .tc .vmem S4x8x2048 .f32) (harg1 : arg1.IsWhole) (arg2 : Memref sig .tc .vmem S4x8x2048 .f32) (harg2 : arg2.IsWhole) (arg3 : Memref sig .tc .vmem S4x8x2048 .f32) (harg3 : arg3.IsWhole) (arg4 : Memref sig .tc .vmem S2048x1 .i32) (harg4 : arg4.IsWhole) (arg5 : Memref sig .tc .vmem S2048x1 .i32) (harg5 : arg5.IsWhole) (arg6 : Memref sig .tc .vmem S2048x1 .i32) (harg6 : arg6.IsWhole) (arg7 : Memref sig .tc .vmem S2048x1 .i32) (harg7 : arg7.IsWhole) (x0 x1 x2 x3 : Vec F S4x8x2048 .f32)

/-- The distances carried into trip `n`. -/
theorem st_acc : ∀ n, n ≤ k1_t1_loop.trips → (st_k1_t1 (F := F) Variants.none c none arg0 harg0 arg1 harg1 arg2 harg2 arg3 harg3 arg4 harg4 arg5 harg5 arg6 harg6 arg7 harg7 (k1_pay10 x0) (k1_pay11 x1) (k1_pay12 x2) (k1_pay13 x3) k1_pay14 (dist x0 x1 x2 x3 0) n).1 = dist x0 x1 x2 x3 n
  | 0, _ => rfl
  | n + 1, hn => by
    rw [st_k1_t1_succ (k := ⟨n, hn⟩), trip_acc, st_acc n (Nat.le_of_succ_le hn)]
    rfl

/-- A batch's row read at its one place: the batch's pick. -/
theorem row_at0 (p : IVec S4x1x1 32) : k1_pay2 (extractStridedSlice S1x1x1 ![0, 0, 0] p slices_S4x1x1_o0_0_0_S1x1x1) (ix2 0 0) = p (ix3 0 0 0) := by
  pointwise [k1_pay2]
theorem row_at1 (p : IVec S4x1x1 32) : k1_pay3 p (ix2 0 0) = p (ix3 1 0 0) := by
  pointwise [k1_pay3]
theorem row_at2 (p : IVec S4x1x1 32) : k1_pay4 p (ix2 0 0) = p (ix3 2 0 0) := by
  pointwise [k1_pay4]
theorem row_at3 (p : IVec S4x1x1 32) : k1_pay5 p (ix2 0 0) = p (ix3 3 0 0) := by
  pointwise [k1_pay5]

theorem trips_eq : k1_t1_loop.trips = 2047 := by decide +kernel
theorem zero2 : (![0, 0] : Fin 2 → ℕ) = fun _ => 0 := by
  funext a; fin_cases a <;> rfl

/-- Batch 0's rows over its column of zeros are `column`. -/
theorem col0 : View.canon ((st_k1_t1 (F := F) Variants.none c none arg0 harg0 arg1 harg1 arg2 harg2 arg3 harg3 arg4 harg4 arg5 harg5 arg6 harg6 arg7 harg7 (k1_pay10 x0) (k1_pay11 x1) (k1_pay12 x2) (k1_pay13 x3) k1_pay14 (dist x0 x1 x2 x3 0) k1_t1_loop.trips).2.1 ++ [(⟨Rect.unit (s := S2048x1) ![0, 0] ![2048, 1] inb_S2048x1_S2048x1_0_0, k1_pay15⟩ : View.Piece (Elt F) S2048x1 .i32)]) = column x0 x1 x2 x3 0 := by
  funext y
  rw [canon_rows (fun n => k1_pay2 (k1_pay9 (k1_pay13 x3) k1_pay14 (dist x0 x1 x2 x3 n))) (fun n => (st_k1_t1 (F := F) Variants.none c none arg0 harg0 arg1 harg1 arg2 harg2 arg3 harg3 arg4 harg4 arg5 harg5 arg6 harg6 arg7 harg7 (k1_pay10 x0) (k1_pay11 x1) (k1_pay12 x2) (k1_pay13 x3) k1_pay14 (dist x0 x1 x2 x3 0) n).2.1) _ rfl (fun k => by
      dsimp only
      rw [st_k1_t1_succ, trip_pieces, st_acc _ _ _ _ _ _ _ _ _ _ _ _ _ _ _ _ _ _ _ _ _ _ (Nat.le_of_lt k.isLt)]
      rfl) _ le_rfl y, View.canon_unit_zero zero2]
  have hy : (y 0).val < 2048 := (y 0).isLt
  unfold column
  by_cases h : (y 0).val = 0
  · rw [if_pos (Or.inl h), if_pos h]; rfl
  · rw [if_neg (by rw [trips_eq]; omega), if_neg h]
    exact row_at0 _

/-- Batch 1's rows over its column of zeros are `column`. -/
theorem col1 : View.canon ((st_k1_t1 (F := F) Variants.none c none arg0 harg0 arg1 harg1 arg2 harg2 arg3 harg3 arg4 harg4 arg5 harg5 arg6 harg6 arg7 harg7 (k1_pay10 x0) (k1_pay11 x1) (k1_pay12 x2) (k1_pay13 x3) k1_pay14 (dist x0 x1 x2 x3 0) k1_t1_loop.trips).2.2.1 ++ [(⟨Rect.unit (s := S2048x1) ![0, 0] ![2048, 1] inb_S2048x1_S2048x1_0_0, k1_pay16⟩ : View.Piece (Elt F) S2048x1 .i32)]) = column x0 x1 x2 x3 1 := by
  funext y
  rw [canon_rows (fun n => k1_pay3 (pick x0 x1 x2 x3 (dist x0 x1 x2 x3 n))) (fun n => (st_k1_t1 (F := F) Variants.none c none arg0 harg0 arg1 harg1 arg2 harg2 arg3 harg3 arg4 harg4 arg5 harg5 arg6 harg6 arg7 harg7 (k1_pay10 x0) (k1_pay11 x1) (k1_pay12 x2) (k1_pay13 x3) k1_pay14 (dist x0 x1 x2 x3 0) n).2.2.1) _ rfl (fun k => by
      dsimp only
      rw [st_k1_t1_succ, trip_pieces, st_acc _ _ _ _ _ _ _ _ _ _ _ _ _ _ _ _ _ _ _ _ _ _ (Nat.le_of_lt k.isLt)]
      rfl) _ le_rfl y, View.canon_unit_zero zero2]
  have hy : (y 0).val < 2048 := (y 0).isLt
  unfold column
  by_cases h : (y 0).val = 0
  · rw [if_pos (Or.inl h), if_pos h]; rfl
  · rw [if_neg (by rw [trips_eq]; omega), if_neg h]
    exact row_at1 _

/-- Batch 2's rows over its column of zeros are `column`. -/
theorem col2 : View.canon ((st_k1_t1 (F := F) Variants.none c none arg0 harg0 arg1 harg1 arg2 harg2 arg3 harg3 arg4 harg4 arg5 harg5 arg6 harg6 arg7 harg7 (k1_pay10 x0) (k1_pay11 x1) (k1_pay12 x2) (k1_pay13 x3) k1_pay14 (dist x0 x1 x2 x3 0) k1_t1_loop.trips).2.2.2.1 ++ [(⟨Rect.unit (s := S2048x1) ![0, 0] ![2048, 1] inb_S2048x1_S2048x1_0_0, k1_pay17⟩ : View.Piece (Elt F) S2048x1 .i32)]) = column x0 x1 x2 x3 2 := by
  funext y
  rw [canon_rows (fun n => k1_pay4 (pick x0 x1 x2 x3 (dist x0 x1 x2 x3 n))) (fun n => (st_k1_t1 (F := F) Variants.none c none arg0 harg0 arg1 harg1 arg2 harg2 arg3 harg3 arg4 harg4 arg5 harg5 arg6 harg6 arg7 harg7 (k1_pay10 x0) (k1_pay11 x1) (k1_pay12 x2) (k1_pay13 x3) k1_pay14 (dist x0 x1 x2 x3 0) n).2.2.2.1) _ rfl (fun k => by
      dsimp only
      rw [st_k1_t1_succ, trip_pieces, st_acc _ _ _ _ _ _ _ _ _ _ _ _ _ _ _ _ _ _ _ _ _ _ (Nat.le_of_lt k.isLt)]
      rfl) _ le_rfl y, View.canon_unit_zero zero2]
  have hy : (y 0).val < 2048 := (y 0).isLt
  unfold column
  by_cases h : (y 0).val = 0
  · rw [if_pos (Or.inl h), if_pos h]; rfl
  · rw [if_neg (by rw [trips_eq]; omega), if_neg h]
    exact row_at2 _

/-- Batch 3's rows over its column of zeros are `column`. -/
theorem col3 : View.canon ((st_k1_t1 (F := F) Variants.none c none arg0 harg0 arg1 harg1 arg2 harg2 arg3 harg3 arg4 harg4 arg5 harg5 arg6 harg6 arg7 harg7 (k1_pay10 x0) (k1_pay11 x1) (k1_pay12 x2) (k1_pay13 x3) k1_pay14 (dist x0 x1 x2 x3 0) k1_t1_loop.trips).2.2.2.2 ++ [(⟨Rect.unit (s := S2048x1) ![0, 0] ![2048, 1] inb_S2048x1_S2048x1_0_0, k1_pay18⟩ : View.Piece (Elt F) S2048x1 .i32)]) = column x0 x1 x2 x3 3 := by
  funext y
  rw [canon_rows (fun n => k1_pay5 (pick x0 x1 x2 x3 (dist x0 x1 x2 x3 n))) (fun n => (st_k1_t1 (F := F) Variants.none c none arg0 harg0 arg1 harg1 arg2 harg2 arg3 harg3 arg4 harg4 arg5 harg5 arg6 harg6 arg7 harg7 (k1_pay10 x0) (k1_pay11 x1) (k1_pay12 x2) (k1_pay13 x3) k1_pay14 (dist x0 x1 x2 x3 0) n).2.2.2.2) _ rfl (fun k => by
      dsimp only
      rw [st_k1_t1_succ, trip_pieces, st_acc _ _ _ _ _ _ _ _ _ _ _ _ _ _ _ _ _ _ _ _ _ _ (Nat.le_of_lt k.isLt)]
      rfl) _ le_rfl y, View.canon_unit_zero zero2]
  have hy : (y 0).val < 2048 := (y 0).isLt
  unfold column
  by_cases h : (y 0).val = 0
  · rw [if_pos (Or.inl h), if_pos h]; rfl
  · rw [if_neg (by rw [trips_eq]; omega), if_neg h]
    exact row_at3 _

theorem zero3' : (![0, 0, 0] : Fin 3 → ℕ) = fun _ => 0 := by
  funext a; fin_cases a <;> rfl
theorem ld_vol (x : Vec F S4x8x2048 .f32) :
    View.ld x (Rect.unit (s := S4x8x2048) ![0, 0, 0] ![4, 8, 2048] inb_S4x8x2048_S4x8x2048_0_0_0) = x :=
  View.ld_unit_zero zero3' _ x

/-- A column of zeros under the rows covers the whole column. -/
theorem whole_col (L : List (View.Piece (Elt F) S2048x1 .i32)) (p : Vec F S2048x1 .i32) (y : S2048x1.Idx) :
    ∃ pc ∈ L ++ [(⟨Rect.unit (s := S2048x1) ![0, 0] ![2048, 1] inb_S2048x1_S2048x1_0_0, p⟩ : View.Piece (Elt F) S2048x1 .i32)], y ∈ pc.1.set :=
  ⟨_, List.mem_append_right _ (List.mem_singleton_self _), by
    rw [Rect.mem_set_unit]
    intro a
    have := (y a).isLt
    fin_cases a
    · exact ⟨Nat.zero_le _, by simpa using this⟩
    · exact ⟨Nat.zero_le _, by simpa using this⟩⟩

set_option maxHeartbeats 1000000 in
/-- The body leaves the four columns in its outputs and its inputs as they were. -/
theorem body1 (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (column x0 x1 x2 x3 0) ∗ owns (c : Thread nD τ) arg5 fullShare (column x0 x1 x2 x3 1) ∗ owns (c : Thread nD τ) arg6 fullShare (column x0 x1 x2 x3 2) ∗ owns (c : Thread nD τ) arg7 fullShare (column x0 x1 x2 x3 3)) -∗ K ⟨⟩))
      ⊢ wp frame (wpE (defs₀ (F := F)) Variants.none c none) E (cc1__fps_kernel arg0 harg0 arg1 harg1 arg2 harg2 arg3 harg3 arg4 harg4 arg5 harg5 arg6 harg6 arg7 harg7) K := by
  simp only [cc1__fps_kernel_eq_skeleton]; unfold cc1__fps_kernel_skel
  simp only [k1_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg0.eq_unread hf0; obtain rfl := harg1.eq_unread hf1; obtain rfl := harg2.eq_unread hf2; obtain rfl := harg3.eq_unread hf3
  sl_exec
  sl_step
  have e0 : body1.sl.r c arg0 harg0 x0 = k1_pay10 x0 := by
    delta body1.sl.r; simp only [View.readAt_eq_ld, hf0, ld_vol]
  have e1 : body1.sl.r_1 c arg1 harg1 x1 = k1_pay11 x1 := by
    delta body1.sl.r_1; simp only [View.readAt_eq_ld, hf1, ld_vol]
  have e2 : body1.sl.r_2 c arg2 harg2 x2 = k1_pay12 x2 := by
    delta body1.sl.r_2; simp only [View.readAt_eq_ld, hf2, ld_vol]
  have e3 : body1.sl.r_3 c arg3 harg3 x3 = k1_pay13 x3 := by
    delta body1.sl.r_3; simp only [View.readAt_eq_ld, hf3, ld_vol]
  have e4 : body1.sl.r_4 c arg0 harg0 x0 = k1_pay19 x0 := by
    delta body1.sl.r_4; simp only [View.readAt_eq_ld, hf0, ld_vol]
  have e5 : body1.sl.r_5 c arg1 harg1 x1 = k1_pay20 x1 := by
    delta body1.sl.r_5; simp only [View.readAt_eq_ld, hf1, ld_vol]
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    delta body1.sl.H4_1
    refine (View.read_writes_eq_canon _ _ _ (whole_col _ _)).trans ?_
    rw [e0, e1, e2, e3, e4, e5]
    exact col0 c arg0 harg0 arg1 harg1 arg2 harg2 arg3 harg3 arg4 harg4 arg5 harg5 arg6 harg6 arg7 harg7 x0 x1 x2 x3
  isplitl [H5]
  · iexists _; isplitr
    swap; · iexact H5
    ipureintro
    delta body1.sl.H5_1
    refine (View.read_writes_eq_canon _ _ _ (whole_col _ _)).trans ?_
    rw [e0, e1, e2, e3, e4, e5]
    exact col1 c arg0 harg0 arg1 harg1 arg2 harg2 arg3 harg3 arg4 harg4 arg5 harg5 arg6 harg6 arg7 harg7 x0 x1 x2 x3
  isplitl [H6]
  · iexists _; isplitr
    swap; · iexact H6
    ipureintro
    delta body1.sl.H6_1
    refine (View.read_writes_eq_canon _ _ _ (whole_col _ _)).trans ?_
    rw [e0, e1, e2, e3, e4, e5]
    exact col2 c arg0 harg0 arg1 harg1 arg2 harg2 arg3 harg3 arg4 harg4 arg5 harg5 arg6 harg6 arg7 harg7 x0 x1 x2 x3
  iexists _; isplitr
  swap; · iexact H7
  ipureintro
  delta body1.sl.H7_1
  refine (View.read_writes_eq_canon _ _ _ (whole_col _ _)).trans ?_
  rw [e0, e1, e2, e3, e4, e5]
  exact col3 c arg0 harg0 arg1 harg1 arg2 harg2 arg3 harg3 arg4 harg4 arg5 harg5 arg6 harg6 arg7 harg7 x0 x1 x2 x3

end Body

section Regions

variable (V : (c : Dev nD) → (b : Ref sig .tc) → Buf (Elt F) ((c : Thread nD τ).loc b))

/-- Window `w`'s block at the call's one point, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the sampling call: inputs keep their blocks, the outputs hold the four columns. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => column (iblk1 V c 0 t) (iblk1 V c 1 t) (iblk1 V c 2 t) (iblk1 V c 3 t) 0
    | ⟨5, _⟩ => column (iblk1 V c 0 t) (iblk1 V c 1 t) (iblk1 V c 2 t) (iblk1 V c 3 t) 1
    | ⟨6, _⟩ => column (iblk1 V c 0 t) (iblk1 V c 1 t) (iblk1 V c 2 t) (iblk1 V c 3 t) 2
    | ⟨7, _⟩ => column (iblk1 V c 0 t) (iblk1 V c 1 t) (iblk1 V c 2 t) (iblk1 V c 3 t) 3
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = column (iblk1 V c 0 t) (iblk1 V c 1 t) (iblk1 V c 2 t) (iblk1 V c 3 t) 0 := by dsimp only [dat1]
theorem after1_5 (c : Dev nD) (t : Fin cfg1.N) : (dat1 V c).after 5 t = column (iblk1 V c 0 t) (iblk1 V c 1 t) (iblk1 V c 2 t) (iblk1 V c 3 t) 1 := by dsimp only [dat1]
theorem after1_6 (c : Dev nD) (t : Fin cfg1.N) : (dat1 V c).after 6 t = column (iblk1 V c 0 t) (iblk1 V c 1 t) (iblk1 V c 2 t) (iblk1 V c 3 t) 2 := by dsimp only [dat1]
theorem after1_7 (c : Dev nD) (t : Fin cfg1.N) : (dat1 V c).after 7 t = column (iblk1 V c 0 t) (iblk1 V c 1 t) (iblk1 V c 2 t) (iblk1 V c 3 t) 3 := by dsimp only [dat1]

/-- An input's buffer holds its block. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- What the body is entered with, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 800000 in
/-- The body at the call's point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body1 c _ _ _ _ _ _ _ _ _ _ _ _ _ _ _ _ (iblk1 V c 0 t) (iblk1 V c 1 t) (iblk1 V c 2 t) (iblk1 V c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row1 (t : Fin cfg1.N) :
    defs₀ (F := F) .tc cfg1.body (cfg1.bodyArgs t (cfg1.slots t)) = bodyAt1 t := by
  unfold defs₀; rw [Defs.onTc_tc]

/-- The body meets its obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Hand

end
-- ==== Proof.KernelIdeal.Run.lean ====
module

public import proofs.«01_k».proof.Proof.KernelIdeal.Density
public import proofs.«01_k».proof.Proof.KernelIdeal.Fps
public import proofs.«01_k».proof.Proof.Gen.KernelIdeal.Regions
public import Idealize.ShloMosaic.Lib.Pipeline.RegionsLoop
public import Idealize.ShloMosaic.Lib.Pipeline.FrameSuffix
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: host stretch, density call, host stretch, sampling call, host stretch -/

/-- @main's argument arrays, as TensorCore references: what the frame claim reads back. -/
abbrev argRefs : List (Ref sig .tc) := [main_arg0, main_arg1]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_v11]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays. -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v13, main_v14, main_v15, main_v16, main_v17]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays. -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v19, main_v20, main_v21, main_v22, main_v23, main_v24]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays. -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's. -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)

/-! ## The proof data family and the thread state -/

/-- The prefetched tables' admissible contents: no pipeline has a table. -/
abbrev adm : (p : Fin 2) → (pcfgs (F := F) p).Adm := fun p => (cfgs p).toPCfg_adm
/-- Every call's proof data, at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the core's generator register, and nothing owed. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it beside the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Call 0 as a segment between the contents of the buffers at its entry and at its exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment between the contents of the buffers at its entry and at its exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every run of @main ends, with every buffer at the last boundary's contents (the arguments as launched) and every
    semaphore at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v24) = W5 m ρ c (Proc.devRef .tc main_v24))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       h c _ (mem_uc main_v24 (by decide))⟩), funext fun g => hz g (.inr (no_unscoped g.2))⟩)

end Cert.KernelIdeal.Hand

end
-- ==== Proof.Math.Spec.lean ====
module

public import Idealize.ShloMosaic.Lib.Pointwise
public import Idealize.ShloMosaic.Lib.IndicatorCount

/-! Farthest point sampling as mathematics over the extended reals: the number of neighbours of a point, the
relative density, the first largest score, and the sequence of chosen points. No program occurs here. -/

@[expose] public section

noncomputable section

namespace Cert.Spec

open Idealize.ShloMosaic

/-- The points of one cloud: three coordinates each. -/
abbrev Cloud := Fin 16384 → Fin 3 → EReal

/-! ## The first largest entry -/

/-- A finite nonempty family has a largest entry with every earlier entry smaller. -/
theorem exists_first {N : ℕ} [NeZero N] (s : Fin N → EReal) :
    ∃ i, (∀ j, s j ≤ s i) ∧ ∀ j, j < i → s j < s i := by
  classical
  obtain ⟨k, -, hk⟩ := Finset.exists_max_image Finset.univ s ⟨0, Finset.mem_univ _⟩
  let T := Finset.univ.filter fun i => ∀ j, s j ≤ s i
  have hT : T.Nonempty := ⟨k, by simp only [T, Finset.mem_filter, Finset.mem_univ, true_and]; exact fun j => hk j (Finset.mem_univ _)⟩
  have hm := T.min'_mem hT
  simp only [T, Finset.mem_filter, Finset.mem_univ, true_and] at hm
  refine ⟨T.min' hT, hm, fun j hj => lt_of_le_of_ne (hm j) fun he => ?_⟩
  have : j ∈ T := by
    simp only [T, Finset.mem_filter, Finset.mem_univ, true_and]
    exact fun i => he ▸ hm i
  exact absurd (T.min'_le j this) (not_le.2 hj)

/-- The position of the first largest entry. -/
def first {N : ℕ} [NeZero N] (s : Fin N → EReal) : Fin N := (exists_first s).choose

theorem le_first {N : ℕ} [NeZero N] (s : Fin N → EReal) (j : Fin N) : s j ≤ s (first s) :=
  (exists_first s).choose_spec.1 j

theorem lt_first {N : ℕ} [NeZero N] (s : Fin N → EReal) (j : Fin N) (h : j < first s) : s j < s (first s) :=
  (exists_first s).choose_spec.2 j h

/-- A position that is largest and that comes no later than any other largest one is the first. -/
theorem eq_first {N : ℕ} [NeZero N] (s : Fin N → EReal) (i : Fin N) (h : ∀ j, s j ≤ s i)
    (h' : ∀ j, s j = s i → i ≤ j) : i = first s := by
  apply le_antisymm
  · exact h' _ (le_antisymm (h _) (le_first s i))
  · by_contra hc
    exact absurd (h (first s)) (not_le.2 (lt_first s i (not_le.1 hc)))

/-! ## The sampling -/

/-- The squared distance of two points. -/
def sq (p : Cloud) (n m : Fin 16384) : EReal :=
  (p n 0 - p m 0) * (p n 0 - p m 0) + (p n 1 - p m 1) * (p n 1 - p m 1) + (p n 2 - p m 2) * (p n 2 - p m 2)

/-- Two points are neighbours: their squared distance is below a quarter. -/
def near (p : Cloud) (n m : Fin 16384) : Prop := sq p n m < Ideal.ofBits FTy.f32 1048576000#32

open Classical in
/-- The number of neighbours of a point. -/
def dens (p : Cloud) (n : Fin 16384) : EReal := ∑ m : Fin 16384, if near p n m then 1 else 0

/-- The largest of a family (−∞ for none). -/
def top {ι : Type} [Fintype ι] (d : ι → EReal) : EReal :=
  Finset.univ.fold max (Ideal.ofBits FTy.f32 4286578688#32) d

/-- The relative density of a point. -/
def rel (p : Cloud) (n : Fin 16384) : EReal := Ideal.div (dens p n) (top (dens p))

/-- The sum of the coordinates' distances of point `n` to point `q`. -/
def away (p : Cloud) (q n : Fin 16384) : EReal :=
  FloatOps.absf (F := Ideal) (φ := .f32) (p n 0 - p q 0) + FloatOps.absf (F := Ideal) (φ := .f32) (p n 1 - p q 1)
    + FloatOps.absf (F := Ideal) (φ := .f32) (p n 2 - p q 2)

/-- The score of every point, of the distances `d`: the distance over the relative density. -/
def score (p : Cloud) (d : Fin 16384 → EReal) (n : Fin 16384) : EReal := Ideal.div (d n) (rel p n)

/-- The lowest distance of every point to the points chosen, after `k` choices beside point 0. -/
def low (p : Cloud) : ℕ → Fin 16384 → EReal
  | 0 => away p 0
  | k + 1 => fun n => min (low p k n) (away p (first (score p (low p k))) n)

/-- Choice `k` beside point 0. -/
def next (p : Cloud) (k : ℕ) : Fin 16384 := first (score p (low p k))

/-- Entry `t` of the result: 0, then the choices in order. -/
def res (p : Cloud) (t : ℕ) : BitVec 32 := if t = 0 then 0#32 else BitVec.ofNat 32 (next p (t - 1)).val

/-! ## Laws of the extended reals -/

/-- The square of a difference does not depend on its direction. -/
theorem sq_sub_comm (a b : EReal) : (a - b) * (a - b) = (b - a) * (b - a) := by
  induction a <;> induction b <;> try rfl
  rename_i x y
  norm_cast
  ring

theorem sq_comm (p : Cloud) (n m : Fin 16384) : sq p n m = sq p m n := by
  unfold sq
  rw [sq_sub_comm (p n 0), sq_sub_comm (p n 1), sq_sub_comm (p n 2)]

/-- The first power is the number itself. -/
theorem pow_one (x : EReal) : Ideal.pow x 1 = x := by
  induction x with
  | bot => rfl
  | top =>
    show (if (0 : EReal) < 1 then (⊤ : EReal) else _) = ⊤
    rw [if_pos zero_lt_one]
  | coe x =>
    show ((Real.rpow x 1 : ℝ) : EReal) = x
    rw [show Real.rpow x 1 = x from Real.rpow_one x]

/-- The largest of a nested family is the largest of the rows' largest. -/
theorem top_flat {J T N : ℕ} (hN : J * T = N) (f : Fin N → EReal) (g : Fin J → Fin T → EReal)
    (hg : ∀ j t h, g j t = f ⟨j.val * T + t.val, h⟩) :
    top (fun j => top (g j)) = top f := by
  refine eq_of_forall_ge_iff fun c => ?_
  unfold top
  simp only [Finset.fold_max_le, Finset.mem_univ, true_implies]
  constructor
  · rintro ⟨h0, h⟩
    refine ⟨h0, fun n => ?_⟩
    have hT : 0 < T := by
      rcases Nat.eq_zero_or_pos T with rfl | h
      · have := n.isLt; omega
      · exact h
    have hj : n.val / T < J := Nat.div_lt_of_lt_mul (by rw [Nat.mul_comm, hN]; exact n.isLt)
    have := (h ⟨n.val / T, hj⟩).2 ⟨n.val % T, Nat.mod_lt _ hT⟩
    rw [hg _ _ (by simp only [Nat.div_add_mod']; exact n.isLt)] at this
    simpa only [Nat.div_add_mod'] using this
  · rintro ⟨h0, h⟩
    refine ⟨h0, fun j => ⟨h0, fun t => ?_⟩⟩
    have hb : j.val * T + t.val < N := by
      have h1 := j.isLt; have h2 := t.isLt
      subst hN
      calc j.val * T + t.val < j.val * T + T := by omega
        _ = (j.val + 1) * T := by rw [Nat.add_mul, Nat.one_mul]
        _ ≤ J * T := Nat.mul_le_mul_right _ h1
    rw [hg j t hb]
    exact h _

/-- The first largest entry attains the largest value. -/
theorem top_eq_first {N : ℕ} [NeZero N] (s : Fin N → EReal) (hb : Ideal.ofBits FTy.f32 4286578688#32 = ⊥) :
    top s = s (first s) := by
  apply le_antisymm
  · unfold top
    rw [Finset.fold_max_le, hb]
    exact ⟨bot_le, fun j _ => le_first s j⟩
  · unfold top
    rw [Finset.le_fold_max]
    exact Or.inr ⟨_, Finset.mem_univ _, le_rfl⟩

/-- The number the kernels' and the reference's starting value of a maximum denotes: −∞. -/
theorem negInf : Ideal.ofBits FTy.f32 4286578688#32 = ⊥ := by
  unfold Ideal.ofBits
  decide +kernel

end Cert.Spec

end
-- ==== Proof.KernelIdeal.DensityValue.lean ====
module

public import proofs.«01_k».proof.Proof.KernelIdeal.Density
public import proofs.«01_k».proof.Proof.Math.Spec
public import Idealize.ShloMosaic.Lib.Pipeline.Value
public import Idealize.ShloMosaic.Lib.Pointwise

/-! The density call's values over the extended reals: given arrays that hold the coordinates of each batch's
points, once as rows and once as columns, its result array holds the number of neighbours of each point. -/

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open Cert.Spec (Cloud)

/-! ## The blocks of a grid point -/

/-- The batch of a grid point, -/
def batch (n : ℕ) (hn : n < cfg0.N) : Fin 4 := ⟨n / 512, by have : cfg0.N = 2048 := N_0; omega⟩

/-- the point at lane `r` of its row blocks, -/
def rowPt (n : ℕ) (r : Fin 512) : Fin 16384 := ⟨n / 16 % 32 * 512 + r.val, by have := r.isLt; omega⟩

/-- and the point at row `x` of its column blocks. -/
def colPt (n : ℕ) (x : Fin 1024) : Fin 16384 := ⟨n % 16 * 1024 + x.val, by have := x.isLt; omega⟩

/-- The block index of the row windows. -/
theorem index_row : ∀ t : Fin cfg0.N,
    win0_6.index t 0 = t.val / 512 ∧ win0_6.index t 1 = 0 ∧ win0_6.index t 2 = t.val / 16 % 32 := by
  decide +kernel

/-- The block index of the column windows. -/
theorem index_col : ∀ t : Fin cfg0.N,
    win0_3.index t 0 = t.val / 512 ∧ win0_3.index t 1 = t.val % 16 ∧ win0_3.index t 2 = 0 := by
  decide +kernel

variable (V : (c : Dev nD) → (b : Ref sig .tc) → Buf (Elt Ideal) ((c : Thread nD τ).loc b)) (c : Dev nD)

/-- Lane `r` of a row block lies in the array at its point, -/
theorem emb_row (t : Fin cfg0.N) (r : Fin 512) :
    (win0_6.rect t).emb (ix3 0 0 r) = (ix3 (batch t.val t.isLt) 0 (rowPt t.val r) : S4x1x16384.Idx) := by
  obtain ⟨e0, e1, e2⟩ := index_row t
  funext a
  apply Fin.ext
  match a with
  | ⟨0, _⟩ => show win0_6.index t 0 * 1 + 1 * 0 = t.val / 512; omega
  | ⟨1, _⟩ => show win0_6.index t 1 * 1 + 1 * 0 = 0; omega
  | ⟨2, _⟩ => show win0_6.index t 2 * 512 + 1 * r.val = t.val / 16 % 32 * 512 + r.val; omega

/-- and so does row `x` of a column block. -/
theorem emb_col (t : Fin cfg0.N) (x : Fin 1024) :
    (win0_3.rect t).emb (ix3 0 x 0) = (ix3 (batch t.val t.isLt) (colPt t.val x) 0 : S4x16384x1.Idx) := by
  obtain ⟨e0, e1, e2⟩ := index_col t
  funext a
  apply Fin.ext
  match a with
  | ⟨0, _⟩ => show win0_3.index t 0 * 1 + 1 * 0 = t.val / 512; omega
  | ⟨1, _⟩ => show win0_3.index t 1 * 1024 + 1 * x.val = t.val % 16 * 1024 + x.val; omega
  | ⟨2, _⟩ => show win0_3.index t 2 * 1 + 1 * 0 = 0; omega

/-- The blocks' elements are the arrays' elements at their points. -/
theorem row0_apply (t : Fin cfg0.N) (r : Fin 512) : (iblk0 V c 0 t : FVec Ideal S1x1x512 .f32) (ix3 0 0 r)
    = (V c main_v6 : FVec Ideal S4x1x16384 .f32) (ix3 (batch t.val t.isLt) 0 (rowPt t.val r)) :=
  congrArg (V c main_v6 : FVec Ideal S4x1x16384 .f32) (emb_row t r)
theorem row1_apply (t : Fin cfg0.N) (r : Fin 512) : (iblk0 V c 1 t : FVec Ideal S1x1x512 .f32) (ix3 0 0 r)
    = (V c main_v7 : FVec Ideal S4x1x16384 .f32) (ix3 (batch t.val t.isLt) 0 (rowPt t.val r)) :=
  congrArg (V c main_v7 : FVec Ideal S4x1x16384 .f32) (emb_row t r)
theorem row2_apply (t : Fin cfg0.N) (r : Fin 512) : (iblk0 V c 2 t : FVec Ideal S1x1x512 .f32) (ix3 0 0 r)
    = (V c main_v8 : FVec Ideal S4x1x16384 .f32) (ix3 (batch t.val t.isLt) 0 (rowPt t.val r)) :=
  congrArg (V c main_v8 : FVec Ideal S4x1x16384 .f32) (emb_row t r)
theorem col3_apply (t : Fin cfg0.N) (x : Fin 1024) : (iblk0 V c 3 t : FVec Ideal S1x1024x1 .f32) (ix3 0 x 0)
    = (V c main_v9 : FVec Ideal S4x16384x1 .f32) (ix3 (batch t.val t.isLt) (colPt t.val x) 0) :=
  congrArg (V c main_v9 : FVec Ideal S4x16384x1 .f32) (emb_col t x)
theorem col4_apply (t : Fin cfg0.N) (x : Fin 1024) : (iblk0 V c 4 t : FVec Ideal S1x1024x1 .f32) (ix3 0 x 0)
    = (V c main_v10 : FVec Ideal S4x16384x1 .f32) (ix3 (batch t.val t.isLt) (colPt t.val x) 0) :=
  congrArg (V c main_v10 : FVec Ideal S4x16384x1 .f32) (emb_col t x)
theorem col5_apply (t : Fin cfg0.N) (x : Fin 1024) : (iblk0 V c 5 t : FVec Ideal S1x1024x1 .f32) (ix3 0 x 0)
    = (V c main_v11 : FVec Ideal S4x16384x1 .f32) (ix3 (batch t.val t.isLt) (colPt t.val x) 0) :=
  congrArg (V c main_v11 : FVec Ideal S4x16384x1 .f32) (emb_col t x)

/-! ## The counts -/

/-- The counts of one grid point's blocks. -/
theorem cnt0_apply (x0 x1 x2 : FVec Ideal S1x1x512 .f32) (x3 x4 x5 : FVec Ideal S1x1024x1 .f32) (r : Fin 512) :
    cnt0 (F := Ideal) x0 x1 x2 x3 x4 x5 (ix3 0 0 r) = ∑ x : Fin 1024,
      if (x3 (ix3 0 x 0) - x0 (ix3 0 0 r)) * (x3 (ix3 0 x 0) - x0 (ix3 0 0 r))
        + (x4 (ix3 0 x 0) - x1 (ix3 0 0 r)) * (x4 (ix3 0 x 0) - x1 (ix3 0 0 r))
        + (x5 (ix3 0 x 0) - x2 (ix3 0 0 r)) * (x5 (ix3 0 x 0) - x2 (ix3 0 0 r)) < Ideal.ofBits FTy.f32 1048576000#32
      then 1 else 0 := by
  pointwise [cnt0, k0_pay2]

/-- A later point of a run adds its counts. -/
theorem pay1_apply (x a : FVec Ideal S1x1x512 .f32) (r : Fin 512) :
    k0_pay1 (F := Ideal) x a (ix3 0 0 r) = a (ix3 0 0 r) + x (ix3 0 0 r) := by
  pointwise [k0_pay1]

open Classical in
/-- The number of neighbours of a point among the points of tile `j`. -/
def tile (p : Cloud) (n : Fin 16384) (j : ℕ) : EReal :=
  ∑ x : Fin 1024, if Spec.near p n (colPt j x) then 1 else 0

/-- The tiles' numbers add up to the number of neighbours. -/
theorem sum_tile (p : Cloud) (n : Fin 16384) : ∑ j ∈ Finset.range 16, tile p n j = Spec.dens p n := by
  unfold Spec.dens tile
  rw [Finset.sum_range, Fin.sum_univ_tiles 16 1024 rfl]
  refine Finset.sum_congr rfl fun j _ => Finset.sum_congr rfl fun x _ => ?_
  have e : colPt j.val x = ⟨j.val * 1024 + x.val, by have := j.isLt; have := x.isLt; omega⟩ :=
    Fin.ext (show j.val % 16 * 1024 + x.val = j.val * 1024 + x.val by have := j.isLt; omega)
  rw [e]

/-- A tile number counts modulo the number of tiles. -/
theorem tile_mod (p : Cloud) (n : Fin 16384) (j : ℕ) : tile p n (j % 16) = tile p n j := by
  have e : ∀ x, colPt (j % 16) x = colPt j x := fun x =>
    Fin.ext (show j % 16 % 16 * 1024 + x.val = j % 16 * 1024 + x.val by omega)
  exact Finset.sum_congr rfl fun x _ => by rw [e x]

section
variable (p : Fin 4 → Cloud)
variable (h0 : ∀ b n, (V c main_v6 : FVec Ideal S4x1x16384 .f32) (ix3 b 0 n) = p b n 0)
variable (h1 : ∀ b n, (V c main_v7 : FVec Ideal S4x1x16384 .f32) (ix3 b 0 n) = p b n 1)
variable (h2 : ∀ b n, (V c main_v8 : FVec Ideal S4x1x16384 .f32) (ix3 b 0 n) = p b n 2)
variable (h3 : ∀ b n, (V c main_v9 : FVec Ideal S4x16384x1 .f32) (ix3 b n 0) = p b n 0)
variable (h4 : ∀ b n, (V c main_v10 : FVec Ideal S4x16384x1 .f32) (ix3 b n 0) = p b n 1)
variable (h5 : ∀ b n, (V c main_v11 : FVec Ideal S4x16384x1 .f32) (ix3 b n 0) = p b n 2)

include h0 h1 h2 h3 h4 h5 in
/-- A grid point counts the neighbours in its tile. -/
theorem count_tile (t : Fin cfg0.N) (r : Fin 512) :
    cnt0 (F := Ideal) (iblk0 V c 0 t) (iblk0 V c 1 t) (iblk0 V c 2 t) (iblk0 V c 3 t) (iblk0 V c 4 t) (iblk0 V c 5 t) (ix3 0 0 r)
      = tile (p (batch t.val t.isLt)) (rowPt t.val r) (t.val % 16) := by
  rw [tile_mod]
  refine (cnt0_apply _ _ _ _ _ _ r).trans ?_
  unfold tile
  refine Finset.sum_congr rfl fun x _ => ?_
  rw [row0_apply, row1_apply, row2_apply, col3_apply, col4_apply, col5_apply, h0, h1, h2, h3, h4, h5]
  have e := Spec.sq_comm (p (batch t.val t.isLt)) (colPt t.val x) (rowPt t.val r)
  unfold Spec.near
  rw [← e]
  unfold Spec.sq
  congr

include h0 h1 h2 h3 h4 h5 in
/-- After a grid point the block holds the number of neighbours in the tiles up to the point's own. -/
theorem acc_apply (n : ℕ) : ∀ (hn : n < cfg0.N) (r : Fin 512),
    acc0 (F := Ideal) V c n hn (ix3 0 0 r)
      = ∑ j ∈ Finset.range (n % 16 + 1), tile (p (batch n hn)) (rowPt n r) j := by
  have hN : cfg0.N = 2048 := N_0
  induction n with
  | zero =>
    intro hn r
    refine (congrFun (acc0_A (F := Ideal) V c ⟨0, hn⟩ rfl) _).trans ?_
    rw [count_tile V c p h0 h1 h2 h3 h4 h5]
    simp
  | succ n ih =>
    intro hn r
    by_cases h : (n + 1) % 16 = 0
    · refine (congrFun (acc0_A (F := Ideal) V c ⟨n + 1, hn⟩ h) _).trans ?_
      rw [count_tile V c p h0 h1 h2 h3 h4 h5, h, Finset.sum_range_one]
    · refine (congrFun (acc0_B (F := Ideal) V c ⟨n + 1, hn⟩ h) _).trans ?_
      refine (pay1_apply _ _ r).trans ?_
      rw [count_tile V c p h0 h1 h2 h3 h4 h5]
      have eb : batch n (Nat.lt_of_succ_lt hn) = batch (n + 1) hn :=
        Fin.ext (show n / 512 = (n + 1) / 512 by omega)
      have er : rowPt n r = rowPt (n + 1) r :=
        Fin.ext (show n / 16 % 32 * 512 + r.val = (n + 1) / 16 % 32 * 512 + r.val by omega)
      have em : (n + 1) % 16 = n % 16 + 1 := by omega
      rw [Finset.sum_range_succ]
      refine congrArg₂ (· + ·) ?_ rfl
      rw [em, ← eb, ← er]
      exact ih (Nat.lt_of_succ_lt hn) r

/-! ## The result array -/

/-- The array of the numbers of neighbours. -/
def counts : FVec Ideal S4x1x16384 .f32 := fun i => Spec.dens (p (i 0)) (i 2)

include h0 h1 h2 h3 h4 h5 in
/-- What a grid point that ends a run writes back is its block of the numbers of neighbours. -/
theorem flushed_counts (t : Fin cfg0.N) (hf : (cfg0.win 6).flush t = true) :
    (dat0 (F := Ideal) V c).flushed 6 t = ((cfg0.win 6).blk t).view.read (Elt Ideal) (counts p) := by
  have ht : t.val % 16 = 15 := (flush0_6 t).mp hf
  obtain ⟨e0, e1, e2⟩ := index_row t
  have hN : cfg0.N = 2048 := N_0
  show (cfg0.win 6).cut (grid0.coords t) ((dat0 (F := Ideal) V c).after 6 t) = _
  rw [after0_6]
  funext y
  obtain ⟨a, b, r, rfl⟩ : ∃ (a : Fin 1) (b : Fin 1) (r : Fin 512), y = ix3 a b r := ⟨y 0, y 1, y 2, by exact eq_ix3 y⟩
  obtain rfl : a = 0 := Subsingleton.elim _ _
  obtain rfl : b = 0 := Subsingleton.elim _ _
  have hl : ∀ f : FVec Ideal S1x1x512 .f32, (cfg0.win 6).cut (grid0.coords t) f (ix3 0 0 r) = f (ix3 0 0 r) := fun f => rfl
  have hr : ∀ g : FVec Ideal S4x1x16384 .f32, ((cfg0.win 6).blk t).view.read (Elt Ideal) g (ix3 0 0 r)
      = g (((cfg0.win 6).blk t).view.emb (ix3 0 0 r)) := fun g => rfl
  rw [hl, hr]
  rw [acc_apply V c p h0 h1 h2 h3 h4 h5, ht, sum_tile]
  unfold counts
  refine congrArg₂ (fun b n => Spec.dens (p b) n) (Fin.ext ?_) (Fin.ext ?_)
  · show t.val / 512 = win0_6.index t 0 * 1 + 1 * 0; omega
  · show t.val / 16 % 32 * 512 + r.val = win0_6.index t 2 * 512 + 1 * r.val; omega

/-- The blocks written back fill the array. -/
theorem cover_counts (i : S4x1x16384.Idx) :
    ∃ t : Fin cfg0.N, (cfg0.win 6).flush t = true ∧ i ∈ ((cfg0.win 6).blk t).view.set := by
  have hN : cfg0.N = 2048 := N_0
  have i0 : (i 0 : ℕ) < 4 := (i 0).isLt
  have i1 : (i 1 : ℕ) < 1 := (i 1).isLt
  have i2 : (i 2 : ℕ) < 16384 := (i 2).isLt
  let t : Fin cfg0.N := ⟨(i 0 : ℕ) * 512 + (i 2 : ℕ) / 512 * 16 + 15, by omega⟩
  have tv : t.val = (i 0 : ℕ) * 512 + (i 2 : ℕ) / 512 * 16 + 15 := rfl
  obtain ⟨e0, e1, e2⟩ := index_row t
  refine ⟨t, (flush0_6 t).mpr (by omega), ?_⟩
  show i ∈ ((View.whole main_v12).slice (win0_6.rect t)).set
  rw [View.set_slice_whole, Rect.mem_set_unit]
  intro a
  match a with
  | ⟨0, _⟩ => show win0_6.index t 0 * 1 ≤ (i 0 : ℕ) ∧ (i 0 : ℕ) < win0_6.index t 0 * 1 + 1; omega
  | ⟨1, _⟩ => show win0_6.index t 1 * 1 ≤ (i 1 : ℕ) ∧ (i 1 : ℕ) < win0_6.index t 1 * 1 + 1; omega
  | ⟨2, _⟩ => show win0_6.index t 2 * 512 ≤ (i 2 : ℕ) ∧ (i 2 : ℕ) < win0_6.index t 2 * 512 + 512; omega

include h0 h1 h2 h3 h4 h5 in
/-- After the call its result array holds the number of neighbours of every point. -/
theorem density_eq : (dat0 (F := Ideal) V c).arrAt 6 cfg0.N = counts p :=
  (dat0 (F := Ideal) V c).arrAt_eq_of_cover 6 (counts p) (flushed_counts V c p h0 h1 h2 h3 h4 h5) cover_counts

end

end Cert.KernelIdeal.Hand
-- ==== Proof.Math.Words.lean ====
module

public import proofs.«01_k».proof.Proof.Math.Spec
public import Idealize.ShloMosaic.Lib.Pointwise
public import Idealize.ShloMosaic.Lib.IndicatorCount
public import Idealize.ShloMosaic.Lib.SortNet.Extract

/-! 32-bit words in the sampling: indices as words, the smallest of a family of words, the count of neighbours
as a word, and the comparison that selects one entry of a sum. -/

@[expose] public section

noncomputable section

namespace Cert.Spec

open Idealize.ShloMosaic

/-- A small number read back from its word, signed. -/
theorem toInt_ofNat {n : ℕ} (h : n < 2 ^ 31) : (BitVec.ofNat 32 n).toInt = n := by
  rw [BitVec.toInt_eq_toNat_of_lt] <;> rw [BitVec.toNat_ofNat] <;> omega

/-- Small numbers with the same word are the same. -/
theorem ofNat_inj {n k : ℕ} (hn : n < 2 ^ 31) (hk : k < 2 ^ 31) (h : BitVec.ofNat 32 n = BitVec.ofNat 32 k) : n = k := by
  have := congrArg BitVec.toInt h
  rw [toInt_ofNat hn, toInt_ofNat hk] at this
  exact_mod_cast this

/-- The smallest of a family of words is below every one of them, and is the starting word or one of them. -/
theorem fold_minsi {ι : Type} (S : Finset ι) (a : BitVec 32) (f : ι → BitVec 32) :
    (∀ x ∈ S, (S.fold IntOp.minsi a f).toInt ≤ (f x).toInt)
      ∧ (S.fold IntOp.minsi a f = a ∨ ∃ x ∈ S, S.fold IntOp.minsi a f = f x) := by
  classical
  induction S using Finset.induction_on with
  | empty => exact ⟨fun x h => absurd h (Finset.notMem_empty x), Or.inl rfl⟩
  | insert b S hb ih =>
    rw [Finset.fold_insert hb]
    obtain ⟨h1, h2⟩ := ih
    constructor
    · intro x hx
      rw [SortNet.toInt_minsi]
      rcases Finset.mem_insert.1 hx with rfl | hx
      · exact min_le_left _ _
      · exact (min_le_right _ _).trans (h1 x hx)
    · have hc : IntOp.minsi (f b) (S.fold IntOp.minsi a f) = f b
          ∨ IntOp.minsi (f b) (S.fold IntOp.minsi a f) = S.fold IntOp.minsi a f := by
        rcases min_choice (f b).toInt (S.fold IntOp.minsi a f).toInt with h | h
        · exact Or.inl (BitVec.eq_of_toInt_eq (by rw [SortNet.toInt_minsi, h]))
        · exact Or.inr (BitVec.eq_of_toInt_eq (by rw [SortNet.toInt_minsi, h]))
      rcases hc with h | h
      · exact Or.inr ⟨b, Finset.mem_insert_self _ _, h⟩
      · rw [h]
        rcases h2 with h2 | ⟨x, hx, h2⟩
        · exact Or.inl h2
        · exact Or.inr ⟨x, Finset.mem_insert_of_mem hx, h2⟩

/-- The smallest candidate of a table of `J` rows of `T`: the candidates are the positions of the largest
    entries, every other position being replaced by a word that is larger than all positions. -/
theorem min_candidate {J T N : ℕ} [NeZero N] (hN : J * T = N) (hs : N ≤ 2 ^ 30) (s : Fin N → EReal)
    (g : Fin J → Fin T → BitVec 32)
    (hg : ∀ j t h, g j t = if s ⟨j.val * T + t.val, h⟩ = s (first s) then BitVec.ofNat 32 (j.val * T + t.val)
      else 1073741824#32) :
    Finset.univ.fold IntOp.minsi 2147483647#32 (fun j => Finset.univ.fold IntOp.minsi 2147483647#32 (g j))
      = BitVec.ofNat 32 (first s).val := by
  have hT : 0 < T := by
    rcases Nat.eq_zero_or_pos T with rfl | h
    · exact absurd hN.symm (NeZero.ne N)
    · exact h
  have hlt : ∀ (j : Fin J) (t : Fin T), j.val * T + t.val < N := fun j t => by
    have h1 := j.isLt; have h2 := t.isLt
    subst hN
    calc j.val * T + t.val < j.val * T + T := by omega
      _ = (j.val + 1) * T := by rw [Nat.add_mul, Nat.one_mul]
      _ ≤ J * T := Nat.mul_le_mul_right _ h1
  set r := Finset.univ.fold IntOp.minsi 2147483647#32 (fun j => Finset.univ.fold IntOp.minsi 2147483647#32 (g j)) with hr
  obtain ⟨ha, hb⟩ := fold_minsi Finset.univ 2147483647#32 (fun j => Finset.univ.fold IntOp.minsi 2147483647#32 (g j))
  have hle : ∀ j t, r.toInt ≤ (g j t).toInt := fun j t =>
    (ha j (Finset.mem_univ _)).trans ((fold_minsi Finset.univ 2147483647#32 (g j)).1 t (Finset.mem_univ _))
  have hmem : r = 2147483647#32 ∨ ∃ j t, r = g j t := by
    rcases hb with hb | ⟨j, -, hb⟩
    · exact Or.inl hb
    · rcases (fold_minsi Finset.univ 2147483647#32 (g j)).2 with h | ⟨t, -, h⟩
      · exact Or.inl (hb.trans h)
      · exact Or.inr ⟨j, t, hb.trans h⟩
  set i := first s with hi
  have hil := i.isLt
  have hj : i.val / T < J := Nat.div_lt_of_lt_mul (by rw [Nat.mul_comm, hN]; exact hil)
  have h0 := hle ⟨i.val / T, hj⟩ ⟨i.val % T, Nat.mod_lt _ hT⟩
  rw [hg _ _ (by simp only [Nat.div_add_mod']; exact hil)] at h0
  simp only [Nat.div_add_mod', Fin.eta, if_true] at h0
  rw [toInt_ofNat (by omega)] at h0
  rcases hmem with h | ⟨j, t, h⟩
  · rw [h] at h0
    rw [show (2147483647#32 : BitVec 32).toInt = 2147483647 by decide] at h0
    omega
  · rw [hg j t (hlt j t)] at h
    split at h
    · rename_i he
      rw [h, toInt_ofNat (by have := hlt j t; omega)] at h0
      have h1 : (⟨j.val * T + t.val, hlt j t⟩ : Fin N) = i := by
        apply eq_first
        · intro k; rw [he]; exact le_first s k
        · intro k hk
          refine le_trans (show _ ≤ i from ?_) (?_ : i ≤ k)
          · show j.val * T + t.val ≤ i.val
            omega
          · by_contra hc
            exact absurd (hk.trans he) (ne_of_lt (lt_first s k (not_le.1 hc)))
      rw [h, ← h1]
    · rw [h] at h0
      rw [show (1073741824#32 : BitVec 32).toInt = 1073741824 by decide] at h0
      omega

open Classical in
/-- The number of members of a family with a property, counted by words and read as a signed number, is the sum
    of ones over them. -/
theorem count_words {N : ℕ} (hN : N < 2 ^ 31) (q : Fin N → Prop) (f : Fin N → BitVec 32)
    (hf : ∀ m, f m = BitVec.setWidth 32 (BitVec.ofBool (decide (q m)))) :
    (((Finset.univ.fold IntOp.addi 0#32 f).toInt : ℝ) : EReal) = ∑ m : Fin N, if q m then 1 else 0 := by
  obtain rfl : f = fun m => BitVec.setWidth 32 (BitVec.ofBool (decide (q m))) := funext hf
  rw [IndicatorCount.fold_addi_setWidth_eq_card]
  have hc : (Finset.univ.filter fun m => BitVec.ofBool (decide (q m)) = 1#1).card ≤ N := by
    simpa using Finset.card_le_univ (Finset.univ.filter fun m : Fin N => BitVec.ofBool (decide (q m)) = 1#1)
  rw [toInt_ofNat (by omega)]
  have he : (Finset.univ.filter fun m => BitVec.ofBool (decide (q m)) = 1#1) = Finset.univ.filter q := by
    ext m
    simp only [Finset.mem_filter, Finset.mem_univ, true_and]
    by_cases h : q m <;> simp [h]
  rw [he, Finset.sum_ite, Finset.sum_const_zero, add_zero, Finset.sum_const]
  simp

/-- The sum of a table whose entries are replaced by zero but at one position is the entry there. -/
theorem sum_select {J T N : ℕ} (hN : J * T = N) (hs : N ≤ 2 ^ 30) (v : Fin N → EReal) (i : Fin N)
    (g : Fin J → Fin T → EReal)
    (hg : ∀ j t h, g j t = Scalar.select (IntOp.cmpi .eq (BitVec.ofNat 32 (j.val * T + t.val)) (BitVec.ofNat 32 i.val))
      (v ⟨j.val * T + t.val, h⟩) 0) :
    ∑ j, ∑ t, g j t = v i := by
  have h := Fin.sum_univ_tiles J T hN fun n => if n = i then v n else 0
  rw [Finset.sum_ite_eq' Finset.univ i, if_pos (Finset.mem_univ _)] at h
  rw [h]
  refine Finset.sum_congr rfl fun j _ => Finset.sum_congr rfl fun t _ => ?_
  have hlt : j.val * T + t.val < N := by
    have h1 := j.isLt; have h2 := t.isLt
    subst hN
    calc j.val * T + t.val < j.val * T + T := by omega
      _ = (j.val + 1) * T := by rw [Nat.add_mul, Nat.one_mul]
      _ ≤ J * T := Nat.mul_le_mul_right _ h1
  rw [hg j t hlt]
  by_cases he : (⟨j.val * T + t.val, hlt⟩ : Fin N) = i
  · rw [if_pos he, ← he]
    simp [IntOp.cmpi, Scalar.select]
  · rw [if_neg he]
    have hne : BitVec.ofNat 32 (j.val * T + t.val) ≠ BitVec.ofNat 32 i.val := fun h =>
      he (Fin.ext (ofNat_inj (by omega) (by have := i.isLt; omega) h))
    have hb : (BitVec.ofNat 32 (j.val * T + t.val) == BitVec.ofNat 32 i.val) = false := beq_false_of_ne hne
    simp only [IntOp.cmpi, Scalar.select, hb]
    rfl

end Cert.Spec

end
-- ==== Proof.KernelIdeal.FpsValue.lean ====
module

public import proofs.«01_k».proof.Proof.KernelIdeal.Fps
public import proofs.«01_k».proof.Proof.Math.Spec
public import proofs.«01_k».proof.Proof.Math.Words
public import Idealize.ShloMosaic.Lib.Pointwise

/-! The sampling call's values over the extended reals: given blocks that hold the coordinates and the numbers of
neighbours of each batch's points, point `s * 2048 + l` at row `s` and lane `l`, its columns are the sampling. -/

@[expose] public section

set_option maxRecDepth 16384

noncomputable section

namespace Cert.KernelIdeal.Hand

open Cert.KernelIdeal Cert.KernelIdeal.Gen
open Idealize.ShloMosaic Idealize.ShloMosaic.TcCoe
open Cert.Spec (Cloud)

/-- The point at row `s` and lane `l`. -/
def flat (s : Fin 8) (l : Fin 2048) : Fin 16384 := ⟨s.val * 2048 + l.val, by have := s.isLt; have := l.isLt; omega⟩

/-- The position of a point as a word. -/
theorem position_apply (b : Fin 4) (s : Fin 8) (l : Fin 2048) :
    k1_pay14 (ix3 b s l) = BitVec.ofNat 32 (s.val * 2048 + l.val) := by
  have h : k1_pay14 (ix3 b s l) = IntOp.addi (IntOp.muli (BitVec.ofNat 32 s.val) 2048#32) (BitVec.ofNat 32 l.val) := by
    pointwise [k1_pay14]
  rw [h]
  show BitVec.ofNat 32 s.val * BitVec.ofNat 32 2048 + BitVec.ofNat 32 l.val = _
  rw [BitVec.ofNat_add, BitVec.ofNat_mul]

section
variable (x0 x1 x2 x3 : FVec Ideal S4x8x2048 .f32) (b : Fin 4) (p : Cloud)
variable (h0 : ∀ s l, x0 (ix3 b s l) = p (flat s l) 0) (h1 : ∀ s l, x1 (ix3 b s l) = p (flat s l) 1)
variable (h2 : ∀ s l, x2 (ix3 b s l) = p (flat s l) 2) (h3 : ∀ s l, x3 (ix3 b s l) = Spec.dens p (flat s l))

include h3 in
/-- The relative density. -/
theorem rel_apply (s : Fin 8) (l : Fin 2048) : k1_pay13 (F := Ideal) x3 (ix3 b s l) = Spec.rel p (flat s l) := by
  have h : k1_pay13 (F := Ideal) x3 (ix3 b s l) = Ideal.div (x3 (ix3 b s l)) (Spec.top fun s : Fin 8 => Spec.top fun l : Fin 2048 => x3 (ix3 b s l)) := by
    pointwise [k1_pay13]
    rfl
  rw [h, Spec.top_flat (J := 8) (T := 2048) rfl (Spec.dens p) _ fun s l _ => h3 s l, h3]
  rfl

include h3 in
/-- The pick of a round is the position of the first largest score. -/
theorem pick_apply (d : FVec Ideal S4x8x2048 .f32) (f : Fin 16384 → EReal) (hd : ∀ s l, d (ix3 b s l) = f (flat s l)) :
    pick (F := Ideal) x0 x1 x2 x3 d (ix3 b 0 0) = BitVec.ofNat 32 (Spec.first (Spec.score p f)).val := by
  have h : ∀ (g : FVec Ideal S4x8x2048 .f32) (ii : IVec S4x8x2048 32), k1_pay7 g ii d (ix3 b 0 0)
      = Finset.univ.fold IntOp.minsi 2147483647#32 (fun s : Fin 8 => Finset.univ.fold IntOp.minsi 2147483647#32 (fun l : Fin 2048 =>
          if Ideal.div (d (ix3 b s l)) (g (ix3 b s l)) = (Spec.top fun s : Fin 8 => Spec.top fun l : Fin 2048 => Ideal.div (d (ix3 b s l)) (g (ix3 b s l)))
          then ii (ix3 b s l) else 1073741824#32)) := by
    intro g ii
    pointwise [k1_pay7]
    rfl
  unfold pick
  rw [h, Spec.top_flat (J := 8) (T := 2048) rfl (Spec.score p f) _ fun s l _ => by
    rw [hd, rel_apply x3 b p h3]; rfl]
  refine Spec.min_candidate (J := 8) (T := 2048) rfl (by decide) (Spec.score p f) _ fun s l _ => ?_
  rw [hd, rel_apply x3 b p h3, Spec.top_eq_first _ Spec.negInf, position_apply]
  rfl

include h0 h1 h2 in
/-- The distances to the first point. -/
theorem dist_zero (s : Fin 8) (l : Fin 2048) :
    dist (F := Ideal) x0 x1 x2 x3 0 (ix3 b s l) = Spec.away p 0 (flat s l) := by
  have h : k1_pay1 (k1_pay10 x0) (k1_pay11 x1) (k1_pay12 x2) (k1_pay19 x0) (k1_pay20 x1) (ix3 b s l)
      = FloatOps.absf (F := Ideal) (φ := .f32) (x0 (ix3 b s l) - x0 (ix3 b 0 0)) + FloatOps.absf (F := Ideal) (φ := .f32) (x1 (ix3 b s l) - x1 (ix3 b 0 0))
        + FloatOps.absf (F := Ideal) (φ := .f32) (x2 (ix3 b s l) - x2 (ix3 b 0 0)) := by
    pointwise [k1_pay1, k1_pay19, k1_pay20, k1_pay10, k1_pay11, k1_pay12]
  refine h.trans ?_
  simp only [h0, h1, h2]
  rfl

include h0 h1 h2 h3 in
/-- The distances to the point picked in a round. -/
theorem far_apply (d : FVec Ideal S4x8x2048 .f32) (f : Fin 16384 → EReal) (hd : ∀ s l, d (ix3 b s l) = f (flat s l))
    (s : Fin 8) (l : Fin 2048) :
    k1_pay8 (k1_pay10 x0) (k1_pay11 x1) (k1_pay12 x2) (k1_pay13 x3) k1_pay14 d (ix3 b s l)
      = Spec.away p (Spec.first (Spec.score p f)) (flat s l) := by
  have h : ∀ (x y z g : FVec Ideal S4x8x2048 .f32) (ii : IVec S4x8x2048 32), k1_pay8 x y z g ii d (ix3 b s l)
      = FloatOps.absf (F := Ideal) (φ := .f32) (x (ix3 b s l) - ∑ s : Fin 8, ∑ l : Fin 2048,
            Scalar.select (IntOp.cmpi .eq (ii (ix3 b s l)) (k1_pay7 g ii d (ix3 b 0 0))) (x (ix3 b s l)) 0)
        + FloatOps.absf (F := Ideal) (φ := .f32) (y (ix3 b s l) - ∑ s : Fin 8, ∑ l : Fin 2048,
            Scalar.select (IntOp.cmpi .eq (ii (ix3 b s l)) (k1_pay7 g ii d (ix3 b 0 0))) (y (ix3 b s l)) 0)
        + FloatOps.absf (F := Ideal) (φ := .f32) (z (ix3 b s l) - ∑ s : Fin 8, ∑ l : Fin 2048,
            Scalar.select (IntOp.cmpi .eq (ii (ix3 b s l)) (k1_pay7 g ii d (ix3 b 0 0))) (z (ix3 b s l)) 0) := by
    intro x y z g ii
    pointwise [k1_pay8]
  have hp : k1_pay7 (k1_pay13 x3) k1_pay14 d (ix3 b 0 0) = BitVec.ofNat 32 (Spec.first (Spec.score p f)).val :=
    pick_apply x0 x1 x2 x3 b p h3 d f hd
  have hsel : ∀ (x : FVec Ideal S4x8x2048 .f32) (a : Fin 3), (∀ s l, x (ix3 b s l) = p (flat s l) a) →
      ∑ s : Fin 8, ∑ l : Fin 2048, Scalar.select (IntOp.cmpi .eq (k1_pay14 (ix3 b s l))
        (BitVec.ofNat 32 (Spec.first (Spec.score p f)).val)) (x (ix3 b s l)) 0 = p (Spec.first (Spec.score p f)) a := by
    intro x a hx
    refine Spec.sum_select (J := 8) (T := 2048) (N := 16384) rfl (by decide) (fun n => p n a) _ _ fun s l _ => ?_
    rw [hx, position_apply]
    rfl
  rw [h, hp]
  have e0 : ∀ s l, k1_pay10 (F := Ideal) x0 (ix3 b s l) = p (flat s l) 0 := fun s l => by
    pointwise [k1_pay10]
    exact h0 s l
  have e1 : ∀ s l, k1_pay11 (F := Ideal) x1 (ix3 b s l) = p (flat s l) 1 := fun s l => by
    pointwise [k1_pay11]
    exact h1 s l
  have e2 : ∀ s l, k1_pay12 (F := Ideal) x2 (ix3 b s l) = p (flat s l) 2 := fun s l => by
    pointwise [k1_pay12]
    exact h2 s l
  rw [hsel _ 0 e0, hsel _ 1 e1, hsel _ 2 e2, e0, e1, e2]
  rfl

include h0 h1 h2 h3 in
/-- The lowest distances after `n` picks. -/
theorem dist_apply (n : ℕ) : ∀ (s : Fin 8) (l : Fin 2048), dist (F := Ideal) x0 x1 x2 x3 n (ix3 b s l) = Spec.low p n (flat s l) := by
  induction n with
  | zero => exact dist_zero x0 x1 x2 x3 b p h0 h1 h2
  | succ n ih =>
    intro s l
    have h : ∀ u v : FVec Ideal S4x8x2048 .f32, k1_pay6 u v (ix3 b s l) = min (u (ix3 b s l)) (v (ix3 b s l)) := by
      intro u v
      pointwise [k1_pay6]
    refine (h _ _).trans ?_
    rw [ih, far_apply x0 x1 x2 x3 b p h0 h1 h2 h3 _ (Spec.low p n) ih]
    rfl

include h0 h1 h2 h3 in
/-- The column of a batch is its sampling. -/
theorem column_apply (t : Fin 2048) : column (F := Ideal) x0 x1 x2 x3 b (ix2 t 0) = Spec.res p t.val := by
  show (if t.val = 0 then (0#32 : BitVec 32) else pick (F := Ideal) x0 x1 x2 x3 (dist x0 x1 x2 x3 (t.val - 1)) (ix3 b 0 0)) = _
  rw [pick_apply x0 x1 x2 x3 b p h3 _ (Spec.low p (t.val - 1)) (dist_apply x0 x1 x2 x3 b p h0 h1 h2 h3 _)]
  rfl

end

end Cert.KernelIdeal.Hand

end
-- ==== Proof.KernelIdeal.Value.lean ====
module

public import proofs.«01_k».proof.Proof.KernelIdeal.Run
public import proofs.«01_k».proof.Proof.KernelIdeal.DensityValue
public import proofs.«01_k».proof.Proof.KernelIdeal.FpsValue
public import Idealize.ShloMosaic.Lib.StableHlo.RunClose
public import Idealize.ShloMosaic.Lib.StableHlo.RunRead
public import Idealize.ShloMosaic.Lib.Pipeline.Value
public import Idealize.ShloMosaic.Lib.Pointwise

/-! The program's value over the extended reals: what its host operations make of the points and of the calls'
results, and from these the result array as the sampling of each batch. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.StableHlo
open Idealize.ShloMosaic.Pipeline (Dat)
open Cert.Spec (Cloud)

/-! ## The host stretches -/

/-- The points' first, second and third coordinates. -/
def coordX (x : FVec Ideal S4x16384x3 .f32) : FVec Ideal S4x16384 .f32 :=
  shapeCast S4x16384 (extractStridedSlice S4x16384x1 ![0, 0, 0] x slices_S4x16384x3_S4x16384x1_0_0_0) shapeCasts_S4x16384x1_S4x16384
def coordY (x : FVec Ideal S4x16384x3 .f32) : FVec Ideal S4x16384 .f32 :=
  shapeCast S4x16384 (extractStridedSlice S4x16384x1 ![0, 0, 1] x slices_S4x16384x3_S4x16384x1_0_0_1) shapeCasts_S4x16384x1_S4x16384
def coordZ (x : FVec Ideal S4x16384x3 .f32) : FVec Ideal S4x16384 .f32 :=
  shapeCast S4x16384 (extractStridedSlice S4x16384x1 ![0, 0, 2] x slices_S4x16384x3_S4x16384x1_0_0_2) shapeCasts_S4x16384x1_S4x16384

theorem coordX_apply (x : FVec Ideal S4x16384x3 .f32) (b : Fin 4) (n : Fin 16384) : coordX x (ix2 b n) = x (ix3 b n 0) := by
  pointwise [coordX]
theorem coordY_apply (x : FVec Ideal S4x16384x3 .f32) (b : Fin 4) (n : Fin 16384) : coordY x (ix2 b n) = x (ix3 b n 1) := by
  pointwise [coordY]
theorem coordZ_apply (x : FVec Ideal S4x16384x3 .f32) (b : Fin 4) (n : Fin 16384) : coordZ x (ix2 b n) = x (ix3 b n 2) := by
  pointwise [coordZ]

/-- A coordinate laid out as a row, -/
theorem row_apply (x : FVec Ideal S4x16384 .f32) (b : Fin 4) (n : Fin 16384) :
    broadcastInDim S4x1x16384 ![0, 2] bcast_S4x16384_S4x1x16384_0_2 x (ix3 b 0 n) = x (ix2 b n) := by
  pointwise []

/-- as a column, -/
theorem col_apply (x : FVec Ideal S4x16384 .f32) (b : Fin 4) (n : Fin 16384) :
    broadcastInDim S4x16384x1 ![0, 1] bcast_S4x16384_S4x16384x1_0_1 x (ix3 b n 0) = x (ix2 b n) := by
  pointwise []

/-- and in eight rows. -/
theorem rows_apply (x : FVec Ideal S4x16384 .f32) (b : Fin 4) (s : Fin 8) (l : Fin 2048) :
    shapeCast S4x8x2048 x shapeCasts_S4x16384_S4x8x2048 (ix3 b s l) = x (ix2 b (flat s l)) := by
  pointwise []
  rfl

theorem unrow_apply (x : FVec Ideal S4x1x16384 .f32) (b : Fin 4) (n : Fin 16384) :
    shapeCast S4x16384 x shapeCasts_S4x1x16384_S4x16384 (ix2 b n) = x (ix3 b 0 n) := by
  pointwise []

section
variable (V : Valuation τ sig (Elt Ideal))

set_option maxHeartbeats 1000000 in
theorem ops0_v1 : after (hostOps0 (F := Ideal)) V (Proc.devRef .tc main_v1) = coordX (V (Proc.devRef .tc main_arg0)) := by
  simp only [hostOps0]
  after_results_entrywise [cast_eq, coordX]
set_option maxHeartbeats 1000000 in
theorem ops0_v3 : after (hostOps0 (F := Ideal)) V (Proc.devRef .tc main_v3) = coordY (V (Proc.devRef .tc main_arg0)) := by
  simp only [hostOps0]
  after_results_entrywise [cast_eq, coordY]
set_option maxHeartbeats 1000000 in
theorem ops0_v5 : after (hostOps0 (F := Ideal)) V (Proc.devRef .tc main_v5) = coordZ (V (Proc.devRef .tc main_arg0)) := by
  simp only [hostOps0]
  after_results_entrywise [cast_eq, coordZ]

set_option maxHeartbeats 1000000 in
theorem ops0_v6 : after (hostOps0 (F := Ideal)) V (Proc.devRef .tc main_v6)
    = broadcastInDim S4x1x16384 ![0, 2] bcast_S4x16384_S4x1x16384_0_2 (coordX (V (Proc.devRef .tc main_arg0))) := by
  simp only [hostOps0]
  after_results_entrywise [cast_eq, coordX]
set_option maxHeartbeats 1000000 in
theorem ops0_v7 : after (hostOps0 (F := Ideal)) V (Proc.devRef .tc main_v7)
    = broadcastInDim S4x1x16384 ![0, 2] bcast_S4x16384_S4x1x16384_0_2 (coordY (V (Proc.devRef .tc main_arg0))) := by
  simp only [hostOps0]
  after_results_entrywise [cast_eq, coordY]
set_option maxHeartbeats 1000000 in
theorem ops0_v8 : after (hostOps0 (F := Ideal)) V (Proc.devRef .tc main_v8)
    = broadcastInDim S4x1x16384 ![0, 2] bcast_S4x16384_S4x1x16384_0_2 (coordZ (V (Proc.devRef .tc main_arg0))) := by
  simp only [hostOps0]
  after_results_entrywise [cast_eq, coordZ]

set_option maxHeartbeats 1000000 in
theorem ops0_v9 : after (hostOps0 (F := Ideal)) V (Proc.devRef .tc main_v9)
    = broadcastInDim S4x16384x1 ![0, 1] bcast_S4x16384_S4x16384x1_0_1 (coordX (V (Proc.devRef .tc main_arg0))) := by
  simp only [hostOps0]
  after_results_entrywise [cast_eq, coordX]
set_option maxHeartbeats 1000000 in
theorem ops0_v10 : after (hostOps0 (F := Ideal)) V (Proc.devRef .tc main_v10)
    = broadcastInDim S4x16384x1 ![0, 1] bcast_S4x16384_S4x16384x1_0_1 (coordY (V (Proc.devRef .tc main_arg0))) := by
  simp only [hostOps0]
  after_results_entrywise [cast_eq, coordY]
set_option maxHeartbeats 1000000 in
theorem ops0_v11 : after (hostOps0 (F := Ideal)) V (Proc.devRef .tc main_v11)
    = broadcastInDim S4x16384x1 ![0, 1] bcast_S4x16384_S4x16384x1_0_1 (coordZ (V (Proc.devRef .tc main_arg0))) := by
  simp only [hostOps0]
  after_results_entrywise [cast_eq, coordZ]

set_option maxHeartbeats 1000000 in
theorem ops1_v14 : after (hostOps1 (F := Ideal)) V (Proc.devRef .tc main_v14)
    = (shapeCast S4x8x2048 (V (Proc.devRef .tc main_v1) : FVec Ideal S4x16384 .f32) shapeCasts_S4x16384_S4x8x2048 : FVec Ideal S4x8x2048 .f32) := by
  simp only [hostOps1]
  after_results_entrywise [cast_eq]
set_option maxHeartbeats 1000000 in
theorem ops1_v15 : after (hostOps1 (F := Ideal)) V (Proc.devRef .tc main_v15)
    = (shapeCast S4x8x2048 (V (Proc.devRef .tc main_v3) : FVec Ideal S4x16384 .f32) shapeCasts_S4x16384_S4x8x2048 : FVec Ideal S4x8x2048 .f32) := by
  simp only [hostOps1]
  after_results_entrywise [cast_eq]
set_option maxHeartbeats 1000000 in
theorem ops1_v16 : after (hostOps1 (F := Ideal)) V (Proc.devRef .tc main_v16)
    = (shapeCast S4x8x2048 (V (Proc.devRef .tc main_v5) : FVec Ideal S4x16384 .f32) shapeCasts_S4x16384_S4x8x2048 : FVec Ideal S4x8x2048 .f32) := by
  simp only [hostOps1]
  after_results_entrywise [cast_eq]
set_option maxHeartbeats 1000000 in
theorem ops1_v17 : after (hostOps1 (F := Ideal)) V (Proc.devRef .tc main_v17)
    = (shapeCast S4x8x2048 (shapeCast S4x16384 (V (Proc.devRef .tc main_v12) : FVec Ideal S4x1x16384 .f32) shapeCasts_S4x1x16384_S4x16384) shapeCasts_S4x16384_S4x8x2048 : FVec Ideal S4x8x2048 .f32) := by
  simp only [hostOps1]
  after_results_entrywise [cast_eq]

/-- The columns stacked. -/
def stack (y : Fin 4 → IVec S2048x1 32) : IVec S4x2048 32 :=
  shapeCast S4x2048 (concatenate S4x2048x1 0
    [⟨S1x2048x1, broadcastInDim S1x2048x1 ![1, 2] bcast_S2048x1_S1x2048x1_1_2 (y 0)⟩,
     ⟨S1x2048x1, broadcastInDim S1x2048x1 ![1, 2] bcast_S2048x1_S1x2048x1_1_2 (y 1)⟩,
     ⟨S1x2048x1, broadcastInDim S1x2048x1 ![1, 2] bcast_S2048x1_S1x2048x1_1_2 (y 2)⟩,
     ⟨S1x2048x1, broadcastInDim S1x2048x1 ![1, 2] bcast_S2048x1_S1x2048x1_1_2 (y 3)⟩]
    concatenates_S1x2048x1_S1x2048x1_S1x2048x1_S1x2048x1_S4x2048x1_d0) shapeCasts_S4x2048x1_S4x2048

/-- Row `b` of the stack is column `b`. -/
theorem stack_apply (y : Fin 4 → IVec S2048x1 32) (b : Fin 4) (t : Fin 2048) : stack y (ix2 b t) = y b (ix2 t 0) := by
  pointwise [stack]
  fin_vals b with hb
  all_goals simp only [hb, Nat.reduceSub, Nat.reduceLT, ↓reduceDIte]
  · exact congrArg (fun k => y k (ix2 t 0)) (Fin.ext hb.symm : (0 : Fin 4) = b)
  · exact congrArg (fun k => y k (ix2 t 0)) (Fin.ext hb.symm : (1 : Fin 4) = b)
  · exact congrArg (fun k => y k (ix2 t 0)) (Fin.ext hb.symm : (2 : Fin 4) = b)
  · exact congrArg (fun k => y k (ix2 t 0)) (Fin.ext hb.symm : (3 : Fin 4) = b)

set_option maxHeartbeats 2000000 in
theorem ops2_v24 : after (hostOps2 (F := Ideal)) V (Proc.devRef .tc main_v24)
    = stack ![V (Proc.devRef .tc main_v18_0), V (Proc.devRef .tc main_v18_1), V (Proc.devRef .tc main_v18_2), V (Proc.devRef .tc main_v18_3)] := by
  simp only [hostOps2]
  after_results_entrywise [cast_eq, stack]

end

/-! ## The sampling call: its windows are whole arrays -/

/-- The one grid point. -/
abbrev point1 : Fin cfg1.N := ⟨0, by decide⟩

section
variable (V : (c : Dev nD) → (b : Ref sig .tc) → Buf (Elt Ideal) ((c : Thread nD τ).loc b)) (c : Dev nD)

/-- An index of a window's block at block index zero is the array's. -/
theorem emb_zero (w : Pipeline.Window sig grid1) (t : Fin grid1.N) (h : ∀ a, w.index t a = 0)
    (y : (w.xblock (grid1.coords t)).Idx) (a : Fin w.shape.rank) : ((w.rect t).emb y a : ℕ) = y a :=
  w.rect_emb_val_of_index_zero t a (h a) y

/-- What the one point writes back over the whole array is what the array ends with. -/
theorem arr_end (w : Fin cfg1.W) (G : Buf (Elt Ideal) ((cfg1.win w).arr.view.loc (c.tc : Thread nD τ)))
    (hf : (cfg1.win w).flush point1 = true)
    (hG : (dat1 (F := Ideal) V c).flushed w point1 = ((cfg1.win w).blk point1).view.read (Elt Ideal) G)
    (hc : ∀ i, i ∈ ((cfg1.win w).blk point1).view.set) : (dat1 (F := Ideal) V c).arrAt w cfg1.N = G :=
  (dat1 (F := Ideal) V c).arrAt_eq_of_cover w G
    (fun t _ => by
      obtain rfl : t = point1 := Fin.ext (Nat.lt_one_iff.mp t.isLt)
      exact hG)
    fun i => ⟨point1, hf, hc i⟩

theorem iblk1_0 (t : Fin cfg1.N) : (iblk1 V c 0 t : FVec Ideal S4x8x2048 .f32) = V c main_v14 :=
  funext fun y => congrArg (V c main_v14 : FVec Ideal S4x8x2048 .f32) (funext fun a => Fin.ext (emb_zero win1_0 t (fun _ => rfl) y a))
theorem iblk1_1 (t : Fin cfg1.N) : (iblk1 V c 1 t : FVec Ideal S4x8x2048 .f32) = V c main_v15 :=
  funext fun y => congrArg (V c main_v15 : FVec Ideal S4x8x2048 .f32) (funext fun a => Fin.ext (emb_zero win1_1 t (fun _ => rfl) y a))
theorem iblk1_2 (t : Fin cfg1.N) : (iblk1 V c 2 t : FVec Ideal S4x8x2048 .f32) = V c main_v16 :=
  funext fun y => congrArg (V c main_v16 : FVec Ideal S4x8x2048 .f32) (funext fun a => Fin.ext (emb_zero win1_2 t (fun _ => rfl) y a))
theorem iblk1_3 (t : Fin cfg1.N) : (iblk1 V c 3 t : FVec Ideal S4x8x2048 .f32) = V c main_v17 :=
  funext fun y => congrArg (V c main_v17 : FVec Ideal S4x8x2048 .f32) (funext fun a => Fin.ext (emb_zero win1_3 t (fun _ => rfl) y a))

/-- The columns of the four arrays. -/
abbrev col (b : Fin 4) : IVec S2048x1 32 :=
  column (F := Ideal) (V c main_v14) (V c main_v15) (V c main_v16) (V c main_v17) b

/-- What the body leaves in a result's block is a column of the arrays. -/
theorem column_blocks (b : Fin 4) : column (F := Ideal) (iblk1 V c 0 point1) (iblk1 V c 1 point1) (iblk1 V c 2 point1) (iblk1 V c 3 point1) b
    = col V c b := by
  rw [iblk1_0, iblk1_1, iblk1_2, iblk1_3]

/-- Each result array ends at its batch's column. -/
theorem sampled_0 : (dat1 (F := Ideal) V c).arrAt 4 cfg1.N = col V c 0 :=
  have hx : ∀ y : S2048x1.Idx, ((cfg1.win 4).blk point1).view.emb y = y := fun y =>
    funext fun a => Fin.ext (emb_zero win1_4 point1 (fun _ => rfl) y a)
  arr_end V c 4 _ (flush1_4 _) (funext fun y => (congrFun ((after1_4 V c point1).trans (column_blocks V c 0)) y).trans (congrArg (col V c 0) (hx y)).symm)
    fun i => hx i ▸ View.emb_mem_set _ i
theorem sampled_1 : (dat1 (F := Ideal) V c).arrAt 5 cfg1.N = col V c 1 :=
  have hx : ∀ y : S2048x1.Idx, ((cfg1.win 5).blk point1).view.emb y = y := fun y =>
    funext fun a => Fin.ext (emb_zero win1_5 point1 (fun _ => rfl) y a)
  arr_end V c 5 _ (flush1_5 _) (funext fun y => (congrFun ((after1_5 V c point1).trans (column_blocks V c 1)) y).trans (congrArg (col V c 1) (hx y)).symm)
    fun i => hx i ▸ View.emb_mem_set _ i
theorem sampled_2 : (dat1 (F := Ideal) V c).arrAt 6 cfg1.N = col V c 2 :=
  have hx : ∀ y : S2048x1.Idx, ((cfg1.win 6).blk point1).view.emb y = y := fun y =>
    funext fun a => Fin.ext (emb_zero win1_6 point1 (fun _ => rfl) y a)
  arr_end V c 6 _ (flush1_6 _) (funext fun y => (congrFun ((after1_6 V c point1).trans (column_blocks V c 2)) y).trans (congrArg (col V c 2) (hx y)).symm)
    fun i => hx i ▸ View.emb_mem_set _ i
theorem sampled_3 : (dat1 (F := Ideal) V c).arrAt 7 cfg1.N = col V c 3 :=
  have hx : ∀ y : S2048x1.Idx, ((cfg1.win 7).blk point1).view.emb y = y := fun y =>
    funext fun a => Fin.ext (emb_zero win1_7 point1 (fun _ => rfl) y a)
  arr_end V c 7 _ (flush1_7 _) (funext fun y => (congrFun ((after1_7 V c point1).trans (column_blocks V c 3)) y).trans (congrArg (col V c 3) (hx y)).symm)
    fun i => hx i ▸ View.emb_mem_set _ i

end

/-! ## The whole program -/

section
variable (m : (ℓ : Loc nD τ sig) → Buf (Elt Ideal) ℓ) (ρ : Dev nD → PrngReg) (c : Dev nD)

/-- The points of a batch. -/
def points (b : Fin 4) : Cloud := fun n a => (m ((c : Thread nD τ).loc main_arg0) : FVec Ideal S4x16384x3 .f32) (ix3 b n a)

/-- The density call's result array. -/
theorem W2_v12 : W2 m ρ c (Proc.devRef .tc main_v12) = counts (points m c) := by
  refine (W2_arr m ρ c 6).trans (density_eq (V1 m ρ) c (points m c) ?_ ?_ ?_ ?_ ?_ ?_)
  · intro b n
    exact (congrFun (ops0_v6 (W0 m ρ c)) _).trans ((row_apply _ b n).trans (coordX_apply _ b n))
  · intro b n
    exact (congrFun (ops0_v7 (W0 m ρ c)) _).trans ((row_apply _ b n).trans (coordY_apply _ b n))
  · intro b n
    exact (congrFun (ops0_v8 (W0 m ρ c)) _).trans ((row_apply _ b n).trans (coordZ_apply _ b n))
  · intro b n
    exact (congrFun (ops0_v9 (W0 m ρ c)) _).trans ((col_apply _ b n).trans (coordX_apply _ b n))
  · intro b n
    exact (congrFun (ops0_v10 (W0 m ρ c)) _).trans ((col_apply _ b n).trans (coordY_apply _ b n))
  · intro b n
    exact (congrFun (ops0_v11 (W0 m ρ c)) _).trans ((col_apply _ b n).trans (coordZ_apply _ b n))

theorem W2_v1 : W2 m ρ c (Proc.devRef .tc main_v1) = coordX (m ((c : Thread nD τ).loc main_arg0)) :=
  (W2_of m ρ c main_v1 (by decide +kernel)).trans (ops0_v1 (W0 m ρ c))
theorem W2_v3 : W2 m ρ c (Proc.devRef .tc main_v3) = coordY (m ((c : Thread nD τ).loc main_arg0)) :=
  (W2_of m ρ c main_v3 (by decide +kernel)).trans (ops0_v3 (W0 m ρ c))
theorem W2_v5 : W2 m ρ c (Proc.devRef .tc main_v5) = coordZ (m ((c : Thread nD τ).loc main_arg0)) :=
  (W2_of m ρ c main_v5 (by decide +kernel)).trans (ops0_v5 (W0 m ρ c))

/-- The sampling call's input arrays. -/
theorem V3_v14 (b : Fin 4) (s : Fin 8) (l : Fin 2048) :
    (V3 m ρ c main_v14 : FVec Ideal S4x8x2048 .f32) (ix3 b s l) = points m c b (flat s l) 0 := by
  refine (congrFun (ops1_v14 (W2 m ρ c)) _).trans ?_
  rw [rows_apply, W2_v1, coordX_apply]
  rfl
theorem V3_v15 (b : Fin 4) (s : Fin 8) (l : Fin 2048) :
    (V3 m ρ c main_v15 : FVec Ideal S4x8x2048 .f32) (ix3 b s l) = points m c b (flat s l) 1 := by
  refine (congrFun (ops1_v15 (W2 m ρ c)) _).trans ?_
  rw [rows_apply, W2_v3, coordY_apply]
  rfl
theorem V3_v16 (b : Fin 4) (s : Fin 8) (l : Fin 2048) :
    (V3 m ρ c main_v16 : FVec Ideal S4x8x2048 .f32) (ix3 b s l) = points m c b (flat s l) 2 := by
  refine (congrFun (ops1_v16 (W2 m ρ c)) _).trans ?_
  rw [rows_apply, W2_v5, coordZ_apply]
  rfl
theorem V3_v17 (b : Fin 4) (s : Fin 8) (l : Fin 2048) :
    (V3 m ρ c main_v17 : FVec Ideal S4x8x2048 .f32) (ix3 b s l) = Spec.dens (points m c b) (flat s l) := by
  refine (congrFun (ops1_v17 (W2 m ρ c)) _).trans ?_
  rw [rows_apply, unrow_apply, W2_v12]
  rfl

/-- Every column holds its batch's sampling. -/
theorem column_value (b : Fin 4) (t : Fin 2048) :
    column (F := Ideal) (V3 m ρ c main_v14) (V3 m ρ c main_v15) (V3 m ρ c main_v16) (V3 m ρ c main_v17) b (ix2 t 0)
      = Spec.res (points m c b) t.val :=
  column_apply _ _ _ _ b (points m c b) (V3_v14 m ρ c b) (V3_v15 m ρ c b) (V3_v16 m ρ c b) (V3_v17 m ρ c b) t

/-- THE VALUE: the result array holds each batch's sampling. -/
theorem value_apply (b : Fin 4) (t : Fin 2048) :
    (W5 m ρ c (Proc.devRef .tc main_v24) : IVec S4x2048 32) (ix2 b t) = Spec.res (points m c b) t.val := by
  refine (congrFun (ops2_v24 (W4 m ρ c)) _).trans ((stack_apply _ b t).trans ?_)
  rw [← column_value m ρ c b t]
  match b with
  | ⟨0, _⟩ => exact congrFun ((W4_arr m ρ c 4).trans (sampled_0 (V3 m ρ) c)) _
  | ⟨1, _⟩ => exact congrFun ((W4_arr m ρ c 5).trans (sampled_1 (V3 m ρ) c)) _
  | ⟨2, _⟩ => exact congrFun ((W4_arr m ρ c 6).trans (sampled_2 (V3 m ρ) c)) _
  | ⟨3, _⟩ => exact congrFun ((W4_arr m ρ c 7).trans (sampled_3 (V3 m ρ) c)) _

end

end Cert.KernelIdeal.Hand
-- ==== Proof.ReferenceIdeal.Run.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Quiescent

/-! The reference's run: its operations in order, the counted loop of 2047 trips, what one trip makes of the
carried buffers, and the state (chosen indices, lowest distances) iterated. -/

@[expose] public section

set_option maxRecDepth 8192

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The operations in order -/

/-- The operations before the loop. -/
abbrev pre0 : List (HloOp τ sig (Elt F)) :=
  [ StableHlo.nullary main_cst (constant S_ .f32 0x3F800000#32),
    StableHlo.unary main_cst main_v0 (broadcastInDim S3 ![] bcast_S_S3 : (⟨S_, .f32⟩ : BufTy).Contents (Elt F) → (⟨S3, .f32⟩ : BufTy).Contents (Elt F)),
    StableHlo.unary main_arg0 main_v1 (broadcastInDim S4x16384x1x3 ![0, 1, 3] bcast_S4x16384x3_S4x16384x1x3_0_1_3 : (⟨S4x16384x3, .f32⟩ : BufTy).Contents (Elt F) → (⟨S4x16384x1x3, .f32⟩ : BufTy).Contents (Elt F)),
    StableHlo.unary main_arg0 main_v2 (broadcastInDim S4x1x16384x3 ![0, 2, 3] bcast_S4x16384x3_S4x1x16384x3_0_2_3 : (⟨S4x16384x3, .f32⟩ : BufTy).Contents (Elt F) → (⟨S4x1x16384x3, .f32⟩ : BufTy).Contents (Elt F)),
    StableHlo.unary main_v1 main_v3 (broadcastInDim S4x16384x16384x3 ![0, 1, 2, 3] bcast_S4x16384x1x3_S4x16384x16384x3_0_1_2_3 : (⟨S4x16384x1x3, .f32⟩ : BufTy).Contents (Elt F) → (⟨S4x16384x16384x3, .f32⟩ : BufTy).Contents (Elt F)),
    StableHlo.unary main_v2 main_v4 (broadcastInDim S4x16384x16384x3 ![0, 1, 2, 3] bcast_S4x1x16384x3_S4x16384x16384x3_0_1_2_3 : (⟨S4x1x16384x3, .f32⟩ : BufTy).Contents (Elt F) → (⟨S4x16384x16384x3, .f32⟩ : BufTy).Contents (Elt F)),
    StableHlo.binary main_v3 main_v4 main_v5 (subf : (⟨S4x16384x16384x3, .f32⟩ : BufTy).Contents (Elt F) → (⟨S4x16384x16384x3, .f32⟩ : BufTy).Contents (Elt F) → (⟨S4x16384x16384x3, .f32⟩ : BufTy).Contents (Elt F)),
    StableHlo.binary main_v5 main_v5 main_v6 (mulf : (⟨S4x16384x16384x3, .f32⟩ : BufTy).Contents (Elt F) → (⟨S4x16384x16384x3, .f32⟩ : BufTy).Contents (Elt F) → (⟨S4x16384x16384x3, .f32⟩ : BufTy).Contents (Elt F)),
    StableHlo.nullary main_cst_0 (constant S_ .f32 0x00000000#32),
    StableHlo.binary main_v6 main_cst_0 main_v7 ((fun x v => Host.reduceAdd x v reducesTo_S4x16384x16384x3_S4x16384x16384_d3 h_S_) : (⟨S4x16384x16384x3, .f32⟩ : BufTy).Contents (Elt F) → (⟨S_, .f32⟩ : BufTy).Contents (Elt F) → (⟨S4x16384x16384, .f32⟩ : BufTy).Contents (Elt F)),
    StableHlo.nullary main_cst_1 (constant S_ .f32 0x3E800000#32),
    StableHlo.unary main_cst_1 main_v8 (broadcastInDim S4x16384x16384 ![] bcast_S_S4x16384x16384 : (⟨S_, .f32⟩ : BufTy).Contents (Elt F) → (⟨S4x16384x16384, .f32⟩ : BufTy).Contents (Elt F)),
    StableHlo.binary main_v7 main_v8 main_v9 (cmpf .olt : (⟨S4x16384x16384, .f32⟩ : BufTy).Contents (Elt F) → (⟨S4x16384x16384, .f32⟩ : BufTy).Contents (Elt F) → (⟨S4x16384x16384, .i1⟩ : BufTy).Contents (Elt F)),
    StableHlo.unary main_v9 main_v10 ((extui 32 · natLt_1_32) : (⟨S4x16384x16384, .i1⟩ : BufTy).Contents (Elt F) → (⟨S4x16384x16384, .i32⟩ : BufTy).Contents (Elt F)),
    StableHlo.nullary main_c (constantI S_ 32 0#32),
    StableHlo.binary main_v10 main_c main_v11 ((fun x v => Host.reduce IntOp.addi x v reducesTo_S4x16384x16384_S4x16384_d2 h_S_) : (⟨S4x16384x16384, .i32⟩ : BufTy).Contents (Elt F) → (⟨S_, .i32⟩ : BufTy).Contents (Elt F) → (⟨S4x16384, .i32⟩ : BufTy).Contents (Elt F)),
    StableHlo.unary main_v11 main_v12 (sitofp .f32 : (⟨S4x16384, .i32⟩ : BufTy).Contents (Elt F) → (⟨S4x16384, .f32⟩ : BufTy).Contents (Elt F)),
    StableHlo.nullary main_cst_2 (constant S_ .f32 0xFF800000#32),
    StableHlo.binary main_v12 main_cst_2 main_v13 ((fun x v => Host.reduce FloatOps.maximumf x v reducesTo_S4x16384_S4_d1 h_S_) : (⟨S4x16384, .f32⟩ : BufTy).Contents (Elt F) → (⟨S_, .f32⟩ : BufTy).Contents (Elt F) → (⟨S4, .f32⟩ : BufTy).Contents (Elt F)),
    StableHlo.unary main_v13 main_v14 (broadcastInDim S4x1 ![0] bcast_S4_S4x1_0 : (⟨S4, .f32⟩ : BufTy).Contents (Elt F) → (⟨S4x1, .f32⟩ : BufTy).Contents (Elt F)),
    StableHlo.unary main_v14 main_v15 (broadcastInDim S4x16384 ![0, 1] bcast_S4x1_S4x16384_0_1 : (⟨S4x1, .f32⟩ : BufTy).Contents (Elt F) → (⟨S4x16384, .f32⟩ : BufTy).Contents (Elt F)),
    StableHlo.binary main_v12 main_v15 main_v16 (Host.divf : (⟨S4x16384, .f32⟩ : BufTy).Contents (Elt F) → (⟨S4x16384, .f32⟩ : BufTy).Contents (Elt F) → (⟨S4x16384, .f32⟩ : BufTy).Contents (Elt F)),
    StableHlo.nullary main_cst_3 (constant S_ .f32 0x3F800000#32),
    StableHlo.unary main_cst_3 main_v17 (broadcastInDim S4x16384 ![] bcast_S_S4x16384 : (⟨S_, .f32⟩ : BufTy).Contents (Elt F) → (⟨S4x16384, .f32⟩ : BufTy).Contents (Elt F)),
    StableHlo.binary main_v16 main_v17 main_v18 (Host.powf : (⟨S4x16384, .f32⟩ : BufTy).Contents (Elt F) → (⟨S4x16384, .f32⟩ : BufTy).Contents (Elt F) → (⟨S4x16384, .f32⟩ : BufTy).Contents (Elt F)),
    StableHlo.nullary main_c_4 (constantI S_ 32 0#32),
    StableHlo.unary main_c_4 main_v19 (broadcastInDim S4x2048 ![] bcast_S_S4x2048 : (⟨S_, .i32⟩ : BufTy).Contents (Elt F) → (⟨S4x2048, .i32⟩ : BufTy).Contents (Elt F)),
    StableHlo.unary main_arg0 main_v20 ((extractStridedSlice S4x1x3 ![0, 0, 0] · slices_S4x16384x3_S4x1x3_0_0_0) : (⟨S4x16384x3, .f32⟩ : BufTy).Contents (Elt F) → (⟨S4x1x3, .f32⟩ : BufTy).Contents (Elt F)),
    StableHlo.unary main_v20 main_v21 (broadcastInDim S4x16384x3 ![0, 1, 2] bcast_S4x1x3_S4x16384x3_0_1_2 : (⟨S4x1x3, .f32⟩ : BufTy).Contents (Elt F) → (⟨S4x16384x3, .f32⟩ : BufTy).Contents (Elt F)),
    StableHlo.binary main_arg0 main_v21 main_v22 (subf : (⟨S4x16384x3, .f32⟩ : BufTy).Contents (Elt F) → (⟨S4x16384x3, .f32⟩ : BufTy).Contents (Elt F) → (⟨S4x16384x3, .f32⟩ : BufTy).Contents (Elt F)),
    StableHlo.unary main_v22 main_v23 (Host.absf : (⟨S4x16384x3, .f32⟩ : BufTy).Contents (Elt F) → (⟨S4x16384x3, .f32⟩ : BufTy).Contents (Elt F)),
    StableHlo.unary main_v0 main_v24 (broadcastInDim S1x1x3 ![2] bcast_S3_S1x1x3_2 : (⟨S3, .f32⟩ : BufTy).Contents (Elt F) → (⟨S1x1x3, .f32⟩ : BufTy).Contents (Elt F)),
    StableHlo.unary main_v24 main_v25 (broadcastInDim S4x16384x3 ![0, 1, 2] bcast_S1x1x3_S4x16384x3_0_1_2 : (⟨S1x1x3, .f32⟩ : BufTy).Contents (Elt F) → (⟨S4x16384x3, .f32⟩ : BufTy).Contents (Elt F)),
    StableHlo.binary main_v25 main_v23 main_v26 (mulf : (⟨S4x16384x3, .f32⟩ : BufTy).Contents (Elt F) → (⟨S4x16384x3, .f32⟩ : BufTy).Contents (Elt F) → (⟨S4x16384x3, .f32⟩ : BufTy).Contents (Elt F)),
    StableHlo.nullary main_cst_5 (constant S_ .f32 0x00000000#32),
    StableHlo.binary main_v26 main_cst_5 main_v27 ((fun x v => Host.reduceAdd x v reducesTo_S4x16384x3_S4x16384_d2 h_S_) : (⟨S4x16384x3, .f32⟩ : BufTy).Contents (Elt F) → (⟨S_, .f32⟩ : BufTy).Contents (Elt F) → (⟨S4x16384, .f32⟩ : BufTy).Contents (Elt F)),
    StableHlo.nullary main_c_6 (constantI S_ 32 1#32),
    StableHlo.nullary main_c_7 (constantI S_ 32 0#32),
    StableHlo.unary main_v18 main_v28_0 id,
    StableHlo.unary main_arg0 main_v28_1 id,
    StableHlo.unary main_v0 main_v28_2 id,
    StableHlo.unary main_c_7 main_v28_3 id,
    StableHlo.unary main_c_6 main_v28_4 id,
    StableHlo.unary main_v19 main_v28_5 id,
    StableHlo.unary main_v27 main_v28_6 id ]
/-- `pre0` touches TensorCore buffers only. -/
theorem pre0_sub : (pre0 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- No operation of `pre0` allocates a buffer. -/
theorem pre0_fresh : (pre0 : List (HloOp τ sig (Elt F))).Forall fun op => op.fresh = ∅ :=
  StableHlo.forall_fresh_of_map rfl
/-- The buffers `pre0` writes. -/
abbrev pre0_W : List (Ref sig .tc) := [main_cst, main_v0, main_v1, main_v2, main_v3, main_v4, main_v5, main_v6, main_cst_0, main_v7, main_cst_1, main_v8, main_v9, main_v10, main_c, main_v11, main_v12, main_cst_2, main_v13, main_v14, main_v15, main_v16, main_cst_3, main_v17, main_v18, main_c_4, main_v19, main_v20, main_v21, main_v22, main_v23, main_v24, main_v25, main_v26, main_cst_5, main_v27, main_c_6, main_c_7, main_v28_0, main_v28_1, main_v28_2, main_v28_3, main_v28_4, main_v28_5, main_v28_6]
/-- `pre0` writes the buffers listed and no other. -/
theorem pre0_writes : (pre0 : List (HloOp τ sig (Elt F))).Forall fun op => op.writes ⊆ (pre0_W.map (Proc.devRef (τ := τ) .tc)).toFinset :=
  StableHlo.forall_writes_sub_of_map rfl

/-- The loop body: the next counter and the score. -/
abbrev body0 : List (HloOp τ sig (Elt F)) :=
  [ StableHlo.nullary main_while0b_c_14 (constantI S_ 32 1#32),
    StableHlo.binary main_v28_4 main_while0b_c_14 main_while0b_v29 (addi : (⟨S_, .i32⟩ : BufTy).Contents (Elt F) → (⟨S_, .i32⟩ : BufTy).Contents (Elt F) → (⟨S_, .i32⟩ : BufTy).Contents (Elt F)),
    StableHlo.binary main_v28_6 main_v28_0 main_while0b_v30 (Host.divf : (⟨S4x16384, .f32⟩ : BufTy).Contents (Elt F) → (⟨S4x16384, .f32⟩ : BufTy).Contents (Elt F) → (⟨S4x16384, .f32⟩ : BufTy).Contents (Elt F)) ]
/-- `body0` touches TensorCore buffers only. -/
theorem body0_sub : (body0 : List (HloOp τ sig (Elt F))).Forall fun op => op.bufs ⊆ StableHlo.tcRefs τ sig :=
  ⟨StableHlo.nullary_bufs_sub .., StableHlo.binary_bufs_sub .., StableHlo.binary_bufs_sub ..⟩
/-- No operation of `body0` allocates a buffer. -/
theorem body0_fresh : (body0 : List (HloOp τ sig (Elt F))).Forall fun op => op.fresh = ∅ :=
  StableHlo.forall_fresh_of_map rfl
/-- The buffers `body0` writes. -/
abbrev body0_W : List (Ref sig .tc) := [main_while0b_c_14, main_while0b_v29, main_while0b_v30]
/-- `body0` writes the buffers listed and no other. -/
theorem body0_writes : (body0 : List (HloOp τ sig (Elt F))).Forall fun op => op.writes ⊆ (body0_W.map (Proc.devRef (τ := τ) .tc)).toFinset :=
  StableHlo.forall_writes_sub_of_map rfl

/-- The loop body: the argmax of the score. -/
abbrev body1 : List (HloOp τ sig (Elt F)) :=
  [ StableHlo.TRef.nullary (.of main_while0b_call0_v0 : StableHlo.TRef sig ⟨S4x16384, .i32⟩) (iotaInDim S4x16384 32 1),
    StableHlo.TRef.nullary (.of main_while0b_call0_cst : StableHlo.TRef sig ⟨S_, .f32⟩) (constant S_ .f32 0xFF800000#32),
    StableHlo.TRef.nullary (.of main_while0b_call0_c : StableHlo.TRef sig ⟨S_, .i32⟩) (constantI S_ 32 0#32),
    StableHlo.TRef.quaternary (.of main_while0b_v30 : StableHlo.TRef sig ⟨S4x16384, .f32⟩) (.of main_while0b_call0_v0 : StableHlo.TRef sig ⟨S4x16384, .i32⟩) (.of main_while0b_call0_cst : StableHlo.TRef sig ⟨S_, .f32⟩) (.of main_while0b_call0_c : StableHlo.TRef sig ⟨S_, .i32⟩) (.of main_while0b_call0_v1_0 : StableHlo.TRef sig ⟨S4, .f32⟩) (fun x y u v j => (Host.argReduce reducer_argmax_f32_i32 x y u v reducesTo_S4x16384_S4_d1 h_S_ j).1),
    StableHlo.TRef.quaternary (.of main_while0b_v30 : StableHlo.TRef sig ⟨S4x16384, .f32⟩) (.of main_while0b_call0_v0 : StableHlo.TRef sig ⟨S4x16384, .i32⟩) (.of main_while0b_call0_cst : StableHlo.TRef sig ⟨S_, .f32⟩) (.of main_while0b_call0_c : StableHlo.TRef sig ⟨S_, .i32⟩) (.of main_while0b_v31 : StableHlo.TRef sig ⟨S4, .i32⟩) (fun x y u v j => (Host.argReduce reducer_argmax_f32_i32 x y u v reducesTo_S4x16384_S4_d1 h_S_ j).2) ]
/-- `body1` touches TensorCore buffers only. -/
theorem body1_sub : (body1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- No operation of `body1` allocates a buffer. -/
theorem body1_fresh : (body1 : List (HloOp τ sig (Elt F))).Forall fun op => op.fresh = ∅ :=
  StableHlo.forall_fresh_of_map rfl
/-- The buffers `body1` writes. -/
abbrev body1_W : List (Ref sig .tc) := [main_while0b_call0_v0, main_while0b_call0_cst, main_while0b_call0_c, main_while0b_call0_v1_0, main_while0b_v31]
/-- `body1` writes the buffers listed and no other. -/
theorem body1_writes : (body1 : List (HloOp τ sig (Elt F))).Forall fun op => op.writes ⊆ (body1_W.map (Proc.devRef (τ := τ) .tc)).toFinset :=
  StableHlo.forall_writes_sub_of_map rfl

/-- The loop body: the chosen indices written into the result. -/
abbrev body2 : List (HloOp τ sig (Elt F)) :=
  [ StableHlo.unary main_while0b_v31 main_while0b_v32 (broadcastInDim S4x1 ![0] bcast_S4_S4x1_0 : (⟨S4, .i32⟩ : BufTy).Contents (Elt F) → (⟨S4x1, .i32⟩ : BufTy).Contents (Elt F)),
    StableHlo.nullary main_while0b_c_15 (constantI S_ 32 0#32),
    StableHlo.binary main_v28_4 main_while0b_c_15 main_while0b_v33 (cmpi .slt : (⟨S_, .i32⟩ : BufTy).Contents (Elt F) → (⟨S_, .i32⟩ : BufTy).Contents (Elt F) → (⟨S_, .i1⟩ : BufTy).Contents (Elt F)),
    StableHlo.unary main_v28_4 main_while0b_v34 (id : (⟨S_, .i32⟩ : BufTy).Contents (Elt F) → (⟨S_, .i32⟩ : BufTy).Contents (Elt F)),
    StableHlo.nullary main_while0b_c_16 (constantI S_ 32 2048#32),
    StableHlo.binary main_while0b_v34 main_while0b_c_16 main_while0b_v35 (addi : (⟨S_, .i32⟩ : BufTy).Contents (Elt F) → (⟨S_, .i32⟩ : BufTy).Contents (Elt F) → (⟨S_, .i32⟩ : BufTy).Contents (Elt F)),
    StableHlo.ternary main_while0b_v33 main_while0b_v35 main_v28_4 main_while0b_v36 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_17 (constantI S_ 32 0#32),
    StableHlo.binaryIndexed main_v28_5 main_while0b_v32 ![main_while0b_c_17, main_while0b_v36] ⟨S_, .i32⟩ main_while0b_v37 ((fun x u i => Host.dynamicUpdateSlice x u (fun k => (i k (Shape.Idx.first h_S_)).toInt) updateFits_S4x2048_S4x1) : (⟨S4x2048, .i32⟩ : BufTy).Contents (Elt F) → (⟨S4x1, .i32⟩ : BufTy).Contents (Elt F) → (Fin 2 → (⟨S_, .i32⟩ : BufTy).Contents (Elt F)) → (⟨S4x2048, .i32⟩ : BufTy).Contents (Elt F)),
    StableHlo.unary main_while0b_v31 main_while0b_v38 (broadcastInDim S4x1x1 ![0] bcast_S4_S4x1x1_0 : (⟨S4, .i32⟩ : BufTy).Contents (Elt F) → (⟨S4x1x1, .i32⟩ : BufTy).Contents (Elt F)) ]
/-- `body2` touches TensorCore buffers only. -/
theorem body2_sub : (body2 : List (HloOp τ sig (Elt F))).Forall fun op => op.bufs ⊆ StableHlo.tcRefs τ sig :=
  ⟨StableHlo.unary_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.binaryIndexed_bufs_sub .., StableHlo.unary_bufs_sub ..⟩
/-- No operation of `body2` allocates a buffer. -/
theorem body2_fresh : (body2 : List (HloOp τ sig (Elt F))).Forall fun op => op.fresh = ∅ :=
  StableHlo.forall_fresh_of_map rfl
/-- The buffers `body2` writes. -/
abbrev body2_W : List (Ref sig .tc) := [main_while0b_v32, main_while0b_c_15, main_while0b_v33, main_while0b_v34, main_while0b_c_16, main_while0b_v35, main_while0b_v36, main_while0b_c_17, main_while0b_v37, main_while0b_v38]
/-- `body2` writes the buffers listed and no other. -/
theorem body2_writes : (body2 : List (HloOp τ sig (Elt F))).Forall fun op => op.writes ⊆ (body2_W.map (Proc.devRef (τ := τ) .tc)).toFinset :=
  StableHlo.forall_writes_sub_of_map rfl

/-- The loop body: the coordinates of the chosen points. -/
abbrev body3 : List (HloOp τ sig (Elt F)) :=
  [ StableHlo.TRef.nullary (.of main_while0b_call1_c : StableHlo.TRef sig ⟨S_, .i32⟩) (constantI S_ 32 0#32),
    StableHlo.TRef.unary (.of main_while0b_call1_c : StableHlo.TRef sig ⟨S_, .i32⟩) (.of main_while0b_call1_v0 : StableHlo.TRef sig ⟨S4x1x1, .i32⟩) (broadcastInDim S4x1x1 ![] bcast_S_S4x1x1),
    StableHlo.TRef.binary (.of main_while0b_v38 : StableHlo.TRef sig ⟨S4x1x1, .i32⟩) (.of main_while0b_call1_v0 : StableHlo.TRef sig ⟨S4x1x1, .i32⟩) (.of main_while0b_call1_v1 : StableHlo.TRef sig ⟨S4x1x1, .i1⟩) (cmpi .slt),
    StableHlo.TRef.nullary (.of main_while0b_call1_c_0 : StableHlo.TRef sig ⟨S_, .i32⟩) (constantI S_ 32 16384#32),
    StableHlo.TRef.unary (.of main_while0b_call1_c_0 : StableHlo.TRef sig ⟨S_, .i32⟩) (.of main_while0b_call1_v2 : StableHlo.TRef sig ⟨S4x1x1, .i32⟩) (broadcastInDim S4x1x1 ![] bcast_S_S4x1x1),
    StableHlo.TRef.binary (.of main_while0b_v38 : StableHlo.TRef sig ⟨S4x1x1, .i32⟩) (.of main_while0b_call1_v2 : StableHlo.TRef sig ⟨S4x1x1, .i32⟩) (.of main_while0b_call1_v3 : StableHlo.TRef sig ⟨S4x1x1, .i32⟩) addi,
    StableHlo.TRef.ternary (.of main_while0b_call1_v1 : StableHlo.TRef sig ⟨S4x1x1, .i1⟩) (.of main_while0b_call1_v3 : StableHlo.TRef sig ⟨S4x1x1, .i32⟩) (.of main_while0b_v38 : StableHlo.TRef sig ⟨S4x1x1, .i32⟩) (.of main_while0b_call1_v4 : StableHlo.TRef sig ⟨S4x1x1, .i32⟩) select,
    StableHlo.TRef.binary (.of main_v28_1 : StableHlo.TRef sig ⟨S4x16384x3, .f32⟩) (.of main_while0b_call1_v4 : StableHlo.TRef sig ⟨S4x1x1, .i32⟩) (.of main_while0b_v39 : StableHlo.TRef sig ⟨S4x1x3, .f32⟩) (fun x i => Host.gather gather_S4x16384x3_S4x1x1_S4x1x3_2_1_0_0_1_2_113 x i) ]
/-- `body3` touches TensorCore buffers only. -/
theorem body3_sub : (body3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- No operation of `body3` allocates a buffer. -/
theorem body3_fresh : (body3 : List (HloOp τ sig (Elt F))).Forall fun op => op.fresh = ∅ :=
  StableHlo.forall_fresh_of_map rfl
/-- The buffers `body3` writes. -/
abbrev body3_W : List (Ref sig .tc) := [main_while0b_call1_c, main_while0b_call1_v0, main_while0b_call1_v1, main_while0b_call1_c_0, main_while0b_call1_v2, main_while0b_call1_v3, main_while0b_call1_v4, main_while0b_v39]
/-- `body3` writes the buffers listed and no other. -/
theorem body3_writes : (body3 : List (HloOp τ sig (Elt F))).Forall fun op => op.writes ⊆ (body3_W.map (Proc.devRef (τ := τ) .tc)).toFinset :=
  StableHlo.forall_writes_sub_of_map rfl

/-- The loop body: the distances lowered, and the carried values copied back. -/
abbrev body4 : List (HloOp τ sig (Elt F)) :=
  [ StableHlo.unary main_while0b_v39 main_while0b_v40 (broadcastInDim S4x16384x3 ![0, 1, 2] bcast_S4x1x3_S4x16384x3_0_1_2 : (⟨S4x1x3, .f32⟩ : BufTy).Contents (Elt F) → (⟨S4x16384x3, .f32⟩ : BufTy).Contents (Elt F)),
    StableHlo.binary main_v28_1 main_while0b_v40 main_while0b_v41 (subf : (⟨S4x16384x3, .f32⟩ : BufTy).Contents (Elt F) → (⟨S4x16384x3, .f32⟩ : BufTy).Contents (Elt F) → (⟨S4x16384x3, .f32⟩ : BufTy).Contents (Elt F)),
    StableHlo.unary main_while0b_v41 main_while0b_v42 (Host.absf : (⟨S4x16384x3, .f32⟩ : BufTy).Contents (Elt F) → (⟨S4x16384x3, .f32⟩ : BufTy).Contents (Elt F)),
    StableHlo.unary main_v28_2 main_while0b_v43 (broadcastInDim S1x1x3 ![2] bcast_S3_S1x1x3_2 : (⟨S3, .f32⟩ : BufTy).Contents (Elt F) → (⟨S1x1x3, .f32⟩ : BufTy).Contents (Elt F)),
    StableHlo.unary main_while0b_v43 main_while0b_v44 (broadcastInDim S4x16384x3 ![0, 1, 2] bcast_S1x1x3_S4x16384x3_0_1_2 : (⟨S1x1x3, .f32⟩ : BufTy).Contents (Elt F) → (⟨S4x16384x3, .f32⟩ : BufTy).Contents (Elt F)),
    StableHlo.binary main_while0b_v44 main_while0b_v42 main_while0b_v45 (mulf : (⟨S4x16384x3, .f32⟩ : BufTy).Contents (Elt F) → (⟨S4x16384x3, .f32⟩ : BufTy).Contents (Elt F) → (⟨S4x16384x3, .f32⟩ : BufTy).Contents (Elt F)),
    StableHlo.nullary main_while0b_cst_18 (constant S_ .f32 0x00000000#32),
    StableHlo.binary main_while0b_v45 main_while0b_cst_18 main_while0b_v46 ((fun x v => Host.reduceAdd x v reducesTo_S4x16384x3_S4x16384_d2 h_S_) : (⟨S4x16384x3, .f32⟩ : BufTy).Contents (Elt F) → (⟨S_, .f32⟩ : BufTy).Contents (Elt F) → (⟨S4x16384, .f32⟩ : BufTy).Contents (Elt F)),
    StableHlo.binary main_v28_6 main_while0b_v46 main_while0b_v47 (minimumf : (⟨S4x16384, .f32⟩ : BufTy).Contents (Elt F) → (⟨S4x16384, .f32⟩ : BufTy).Contents (Elt F) → (⟨S4x16384, .f32⟩ : BufTy).Contents (Elt F)),
    StableHlo.nullary main_while0b_c_19 (constantI S_ 32 1#32),
    StableHlo.binary main_v28_3 main_while0b_c_19 main_while0b_v48 (addi : (⟨S_, .i32⟩ : BufTy).Contents (Elt F) → (⟨S_, .i32⟩ : BufTy).Contents (Elt F) → (⟨S_, .i32⟩ : BufTy).Contents (Elt F)),
    StableHlo.unary main_while0b_v48 main_v28_3 id,
    StableHlo.unary main_while0b_v29 main_v28_4 id,
    StableHlo.unary main_while0b_v37 main_v28_5 id,
    StableHlo.unary main_while0b_v47 main_v28_6 id ]
/-- `body4` touches TensorCore buffers only. -/
theorem body4_sub : (body4 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub ..⟩
/-- No operation of `body4` allocates a buffer. -/
theorem body4_fresh : (body4 : List (HloOp τ sig (Elt F))).Forall fun op => op.fresh = ∅ :=
  StableHlo.forall_fresh_of_map rfl
/-- The buffers `body4` writes. -/
abbrev body4_W : List (Ref sig .tc) := [main_while0b_v40, main_while0b_v41, main_while0b_v42, main_while0b_v43, main_while0b_v44, main_while0b_v45, main_while0b_cst_18, main_while0b_v46, main_while0b_v47, main_while0b_c_19, main_while0b_v48, main_v28_3, main_v28_4, main_v28_5, main_v28_6]
/-- `body4` writes the buffers listed and no other. -/
theorem body4_writes : (body4 : List (HloOp τ sig (Elt F))).Forall fun op => op.writes ⊆ (body4_W.map (Proc.devRef (τ := τ) .tc)).toFinset :=
  StableHlo.forall_writes_sub_of_map rfl

/-- The operations before the loop that count the neighbours. -/
abbrev preA : List (HloOp τ sig (Elt F)) :=
  [ StableHlo.nullary main_cst (constant S_ .f32 0x3F800000#32),
    StableHlo.unary main_cst main_v0 (broadcastInDim S3 ![] bcast_S_S3 : (⟨S_, .f32⟩ : BufTy).Contents (Elt F) → (⟨S3, .f32⟩ : BufTy).Contents (Elt F)),
    StableHlo.unary main_arg0 main_v1 (broadcastInDim S4x16384x1x3 ![0, 1, 3] bcast_S4x16384x3_S4x16384x1x3_0_1_3 : (⟨S4x16384x3, .f32⟩ : BufTy).Contents (Elt F) → (⟨S4x16384x1x3, .f32⟩ : BufTy).Contents (Elt F)),
    StableHlo.unary main_arg0 main_v2 (broadcastInDim S4x1x16384x3 ![0, 2, 3] bcast_S4x16384x3_S4x1x16384x3_0_2_3 : (⟨S4x16384x3, .f32⟩ : BufTy).Contents (Elt F) → (⟨S4x1x16384x3, .f32⟩ : BufTy).Contents (Elt F)),
    StableHlo.unary main_v1 main_v3 (broadcastInDim S4x16384x16384x3 ![0, 1, 2, 3] bcast_S4x16384x1x3_S4x16384x16384x3_0_1_2_3 : (⟨S4x16384x1x3, .f32⟩ : BufTy).Contents (Elt F) → (⟨S4x16384x16384x3, .f32⟩ : BufTy).Contents (Elt F)),
    StableHlo.unary main_v2 main_v4 (broadcastInDim S4x16384x16384x3 ![0, 1, 2, 3] bcast_S4x1x16384x3_S4x16384x16384x3_0_1_2_3 : (⟨S4x1x16384x3, .f32⟩ : BufTy).Contents (Elt F) → (⟨S4x16384x16384x3, .f32⟩ : BufTy).Contents (Elt F)),
    StableHlo.binary main_v3 main_v4 main_v5 (subf : (⟨S4x16384x16384x3, .f32⟩ : BufTy).Contents (Elt F) → (⟨S4x16384x16384x3, .f32⟩ : BufTy).Contents (Elt F) → (⟨S4x16384x16384x3, .f32⟩ : BufTy).Contents (Elt F)),
    StableHlo.binary main_v5 main_v5 main_v6 (mulf : (⟨S4x16384x16384x3, .f32⟩ : BufTy).Contents (Elt F) → (⟨S4x16384x16384x3, .f32⟩ : BufTy).Contents (Elt F) → (⟨S4x16384x16384x3, .f32⟩ : BufTy).Contents (Elt F)),
    StableHlo.nullary main_cst_0 (constant S_ .f32 0x00000000#32),
    StableHlo.binary main_v6 main_cst_0 main_v7 ((fun x v => Host.reduceAdd x v reducesTo_S4x16384x16384x3_S4x16384x16384_d3 h_S_) : (⟨S4x16384x16384x3, .f32⟩ : BufTy).Contents (Elt F) → (⟨S_, .f32⟩ : BufTy).Contents (Elt F) → (⟨S4x16384x16384, .f32⟩ : BufTy).Contents (Elt F)),
    StableHlo.nullary main_cst_1 (constant S_ .f32 0x3E800000#32),
    StableHlo.unary main_cst_1 main_v8 (broadcastInDim S4x16384x16384 ![] bcast_S_S4x16384x16384 : (⟨S_, .f32⟩ : BufTy).Contents (Elt F) → (⟨S4x16384x16384, .f32⟩ : BufTy).Contents (Elt F)),
    StableHlo.binary main_v7 main_v8 main_v9 (cmpf .olt : (⟨S4x16384x16384, .f32⟩ : BufTy).Contents (Elt F) → (⟨S4x16384x16384, .f32⟩ : BufTy).Contents (Elt F) → (⟨S4x16384x16384, .i1⟩ : BufTy).Contents (Elt F)),
    StableHlo.unary main_v9 main_v10 ((extui 32 · natLt_1_32) : (⟨S4x16384x16384, .i1⟩ : BufTy).Contents (Elt F) → (⟨S4x16384x16384, .i32⟩ : BufTy).Contents (Elt F)),
    StableHlo.nullary main_c (constantI S_ 32 0#32),
    StableHlo.binary main_v10 main_c main_v11 ((fun x v => Host.reduce IntOp.addi x v reducesTo_S4x16384x16384_S4x16384_d2 h_S_) : (⟨S4x16384x16384, .i32⟩ : BufTy).Contents (Elt F) → (⟨S_, .i32⟩ : BufTy).Contents (Elt F) → (⟨S4x16384, .i32⟩ : BufTy).Contents (Elt F)),
    StableHlo.unary main_v11 main_v12 (sitofp .f32 : (⟨S4x16384, .i32⟩ : BufTy).Contents (Elt F) → (⟨S4x16384, .f32⟩ : BufTy).Contents (Elt F)) ]
/-- The buffers `preA` writes. -/
abbrev preA_W : List (Ref sig .tc) := [main_cst, main_v0, main_v1, main_v2, main_v3, main_v4, main_v5, main_v6, main_cst_0, main_v7, main_cst_1, main_v8, main_v9, main_v10, main_c, main_v11, main_v12]
/-- `preA` writes the buffers listed and no other. -/
theorem preA_writes : (preA : List (HloOp τ sig (Elt F))).Forall fun op => op.writes ⊆ (preA_W.map (Proc.devRef (τ := τ) .tc)).toFinset :=
  StableHlo.forall_writes_sub_of_map rfl

/-- The operations before the loop that set up what it carries. -/
abbrev preB : List (HloOp τ sig (Elt F)) :=
  [ StableHlo.nullary main_cst_2 (constant S_ .f32 0xFF800000#32),
    StableHlo.binary main_v12 main_cst_2 main_v13 ((fun x v => Host.reduce FloatOps.maximumf x v reducesTo_S4x16384_S4_d1 h_S_) : (⟨S4x16384, .f32⟩ : BufTy).Contents (Elt F) → (⟨S_, .f32⟩ : BufTy).Contents (Elt F) → (⟨S4, .f32⟩ : BufTy).Contents (Elt F)),
    StableHlo.unary main_v13 main_v14 (broadcastInDim S4x1 ![0] bcast_S4_S4x1_0 : (⟨S4, .f32⟩ : BufTy).Contents (Elt F) → (⟨S4x1, .f32⟩ : BufTy).Contents (Elt F)),
    StableHlo.unary main_v14 main_v15 (broadcastInDim S4x16384 ![0, 1] bcast_S4x1_S4x16384_0_1 : (⟨S4x1, .f32⟩ : BufTy).Contents (Elt F) → (⟨S4x16384, .f32⟩ : BufTy).Contents (Elt F)),
    StableHlo.binary main_v12 main_v15 main_v16 (Host.divf : (⟨S4x16384, .f32⟩ : BufTy).Contents (Elt F) → (⟨S4x16384, .f32⟩ : BufTy).Contents (Elt F) → (⟨S4x16384, .f32⟩ : BufTy).Contents (Elt F)),
    StableHlo.nullary main_cst_3 (constant S_ .f32 0x3F800000#32),
    StableHlo.unary main_cst_3 main_v17 (broadcastInDim S4x16384 ![] bcast_S_S4x16384 : (⟨S_, .f32⟩ : BufTy).Contents (Elt F) → (⟨S4x16384, .f32⟩ : BufTy).Contents (Elt F)),
    StableHlo.binary main_v16 main_v17 main_v18 (Host.powf : (⟨S4x16384, .f32⟩ : BufTy).Contents (Elt F) → (⟨S4x16384, .f32⟩ : BufTy).Contents (Elt F) → (⟨S4x16384, .f32⟩ : BufTy).Contents (Elt F)),
    StableHlo.nullary main_c_4 (constantI S_ 32 0#32),
    StableHlo.unary main_c_4 main_v19 (broadcastInDim S4x2048 ![] bcast_S_S4x2048 : (⟨S_, .i32⟩ : BufTy).Contents (Elt F) → (⟨S4x2048, .i32⟩ : BufTy).Contents (Elt F)),
    StableHlo.unary main_arg0 main_v20 ((extractStridedSlice S4x1x3 ![0, 0, 0] · slices_S4x16384x3_S4x1x3_0_0_0) : (⟨S4x16384x3, .f32⟩ : BufTy).Contents (Elt F) → (⟨S4x1x3, .f32⟩ : BufTy).Contents (Elt F)),
    StableHlo.unary main_v20 main_v21 (broadcastInDim S4x16384x3 ![0, 1, 2] bcast_S4x1x3_S4x16384x3_0_1_2 : (⟨S4x1x3, .f32⟩ : BufTy).Contents (Elt F) → (⟨S4x16384x3, .f32⟩ : BufTy).Contents (Elt F)),
    StableHlo.binary main_arg0 main_v21 main_v22 (subf : (⟨S4x16384x3, .f32⟩ : BufTy).Contents (Elt F) → (⟨S4x16384x3, .f32⟩ : BufTy).Contents (Elt F) → (⟨S4x16384x3, .f32⟩ : BufTy).Contents (Elt F)),
    StableHlo.unary main_v22 main_v23 (Host.absf : (⟨S4x16384x3, .f32⟩ : BufTy).Contents (Elt F) → (⟨S4x16384x3, .f32⟩ : BufTy).Contents (Elt F)),
    StableHlo.unary main_v0 main_v24 (broadcastInDim S1x1x3 ![2] bcast_S3_S1x1x3_2 : (⟨S3, .f32⟩ : BufTy).Contents (Elt F) → (⟨S1x1x3, .f32⟩ : BufTy).Contents (Elt F)),
    StableHlo.unary main_v24 main_v25 (broadcastInDim S4x16384x3 ![0, 1, 2] bcast_S1x1x3_S4x16384x3_0_1_2 : (⟨S1x1x3, .f32⟩ : BufTy).Contents (Elt F) → (⟨S4x16384x3, .f32⟩ : BufTy).Contents (Elt F)),
    StableHlo.binary main_v25 main_v23 main_v26 (mulf : (⟨S4x16384x3, .f32⟩ : BufTy).Contents (Elt F) → (⟨S4x16384x3, .f32⟩ : BufTy).Contents (Elt F) → (⟨S4x16384x3, .f32⟩ : BufTy).Contents (Elt F)),
    StableHlo.nullary main_cst_5 (constant S_ .f32 0x00000000#32),
    StableHlo.binary main_v26 main_cst_5 main_v27 ((fun x v => Host.reduceAdd x v reducesTo_S4x16384x3_S4x16384_d2 h_S_) : (⟨S4x16384x3, .f32⟩ : BufTy).Contents (Elt F) → (⟨S_, .f32⟩ : BufTy).Contents (Elt F) → (⟨S4x16384, .f32⟩ : BufTy).Contents (Elt F)),
    StableHlo.nullary main_c_6 (constantI S_ 32 1#32),
    StableHlo.nullary main_c_7 (constantI S_ 32 0#32),
    StableHlo.unary main_v18 main_v28_0 id,
    StableHlo.unary main_arg0 main_v28_1 id,
    StableHlo.unary main_v0 main_v28_2 id,
    StableHlo.unary main_c_7 main_v28_3 id,
    StableHlo.unary main_c_6 main_v28_4 id,
    StableHlo.unary main_v19 main_v28_5 id,
    StableHlo.unary main_v27 main_v28_6 id ]

/-- The operations before the loop, in two pieces. -/
theorem pre0_cut : (pre0 : List (HloOp τ sig (Elt F))) = preA ++ preB := rfl

/-- `main` is the operations before the loop, then the loop. -/
theorem main_chain (c : Dev nD) : main (F := F) c = (Pipeline.chain
  [ StableHlo.seq pre0,
    HostLoop.enter 0 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons]
  chain_rfl

/-- The loop's body is its five stretches in order. -/
theorem body_chain : main_while0_body (F := F) = (Pipeline.chain
  [ StableHlo.seq body0, StableHlo.seq body1, StableHlo.seq body2, StableHlo.seq body3,
    StableHlo.seq body4 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

/-- The condition: the bound, and the trip counter compared with it. -/
abbrev condOps : List (HloOp τ sig (Elt F)) :=
  [ StableHlo.nullary main_while0c_c_14 (constantI S_ 32 2047#32),
    StableHlo.binary main_v28_3 main_while0c_c_14 main_while0c_v29 (cmpi .slt) ]
/-- The buffers the condition writes. -/
abbrev condOps_W : List (Ref sig .tc) := [main_while0c_c_14, main_while0c_v29]
/-- The condition writes the buffers listed and no other. -/
theorem condOps_writes : (condOps : List (HloOp τ sig (Elt F))).Forall fun op => op.writes ⊆ (condOps_W.map (Proc.devRef (τ := τ) .tc)).toFinset :=
  StableHlo.forall_writes_sub_of_map rfl

/-- The stretches before the loop, of its body, and after it. -/
abbrev preI : List (List (HloOp τ sig (Elt F))) := [pre0]
abbrev bodyI : List (List (HloOp τ sig (Elt F))) := [body0, body1, body2, body3, body4]
abbrev postI : List (List (HloOp τ sig (Elt F))) := []

theorem plain_pre : Plain (preI (F := F)) :=
  .cons pre0_sub (hf := List.forall_iff_forall_mem.mp pre0_fresh) .nil
theorem plain_body : Plain (bodyI (F := F)) :=
  .cons body0_sub (hf := List.forall_iff_forall_mem.mp body0_fresh) <|
  .cons body1_sub (hf := List.forall_iff_forall_mem.mp body1_fresh) <|
  .cons body2_sub (hf := List.forall_iff_forall_mem.mp body2_fresh) <|
  .cons body3_sub (hf := List.forall_iff_forall_mem.mp body3_fresh) <|
  .cons body4_sub (hf := List.forall_iff_forall_mem.mp body4_fresh) .nil
theorem plain_post : Plain (postI (F := F)) := .nil

/-! ## What a stretch leaves alone -/

/-- A buffer that the body's first four stretches and the condition do not write is as it was after them. -/
theorem keep0 (V : Valuation τ sig (Elt F)) (r : Ref sig .tc) (h : r ∉ body0_W) :
    after body0 V (Proc.devRef .tc r) = V (Proc.devRef .tc r) := after_of_writes_sub body0 V body0_writes h
theorem keep1 (V : Valuation τ sig (Elt F)) (r : Ref sig .tc) (h : r ∉ body1_W) :
    after body1 V (Proc.devRef .tc r) = V (Proc.devRef .tc r) := after_of_writes_sub body1 V body1_writes h
theorem keep2 (V : Valuation τ sig (Elt F)) (r : Ref sig .tc) (h : r ∉ body2_W) :
    after body2 V (Proc.devRef .tc r) = V (Proc.devRef .tc r) := after_of_writes_sub body2 V body2_writes h
theorem keep3 (V : Valuation τ sig (Elt F)) (r : Ref sig .tc) (h : r ∉ body3_W) :
    after body3 V (Proc.devRef .tc r) = V (Proc.devRef .tc r) := after_of_writes_sub body3 V body3_writes h
theorem keep4 (V : Valuation τ sig (Elt F)) (r : Ref sig .tc) (h : r ∉ body4_W) :
    after body4 V (Proc.devRef .tc r) = V (Proc.devRef .tc r) := after_of_writes_sub body4 V body4_writes h
theorem keepC (V : Valuation τ sig (Elt F)) (r : Ref sig .tc) (h : r ∉ condOps_W) :
    after condOps V (Proc.devRef .tc r) = V (Proc.devRef .tc r) := after_of_writes_sub condOps V condOps_writes h
theorem keepP (V : Valuation τ sig (Elt F)) (r : Ref sig .tc) (h : r ∉ pre0_W) :
    after pre0 V (Proc.devRef .tc r) = V (Proc.devRef .tc r) := after_of_writes_sub pre0 V pre0_writes h

/-! ## What one trip computes -/

/-- The index of the largest score of each batch (the first one, as the comparison takes it). -/
def argmax (s : FVec F S4x16384 .f32) : Vec F S4 .i32 :=
  fun j => (Host.argReduce reducer_argmax_f32_i32 s (iotaInDim S4x16384 32 1) (constant S_ .f32 0xFF800000#32)
    (constantI S_ 32 0#32) reducesTo_S4x16384_S4_d1 h_S_ j).2

/-- The chosen indices `n` written at column `t` of the result. -/
def put (out : Vec F S4x2048 .i32) (n : Vec F S4 .i32) (t : Vec F S_ .i32) : Vec F S4x2048 .i32 :=
  Host.dynamicUpdateSlice out (broadcastInDim S4x1 ![0] bcast_S4_S4x1_0 n)
    (fun k => ((![constantI S_ 32 0#32, select (cmpi .slt t (constantI S_ 32 0#32))
      (addi t (constantI S_ 32 2048#32)) t] : Fin 2 → Vec F S_ .i32) k (Shape.Idx.first h_S_)).toInt) updateFits_S4x2048_S4x1

/-- The coordinates of the points chosen. -/
def chosen (pts : FVec F S4x16384x3 .f32) (n : Vec F S4 .i32) : FVec F S4x1x3 .f32 :=
  Host.gather gather_S4x16384x3_S4x1x1_S4x1x3_2_1_0_0_1_2_113 pts
    (select (cmpi .slt (broadcastInDim S4x1x1 ![0] bcast_S4_S4x1x1_0 n) (broadcastInDim S4x1x1 ![] bcast_S_S4x1x1 (constantI S_ 32 0#32)))
      (addi (broadcastInDim S4x1x1 ![0] bcast_S4_S4x1x1_0 n) (broadcastInDim S4x1x1 ![] bcast_S_S4x1x1 (constantI S_ 32 16384#32)))
      (broadcastInDim S4x1x1 ![0] bcast_S4_S4x1x1_0 n))

/-- The weighted distance of every point to one point per batch. -/
def distTo (pts : FVec F S4x16384x3 .f32) (w : FVec F S3 .f32) (p : FVec F S4x1x3 .f32) : FVec F S4x16384 .f32 :=
  Host.reduceAdd (mulf (broadcastInDim S4x16384x3 ![0, 1, 2] bcast_S1x1x3_S4x16384x3_0_1_2 (broadcastInDim S1x1x3 ![2] bcast_S3_S1x1x3_2 w))
    (Host.absf (subf pts (broadcastInDim S4x16384x3 ![0, 1, 2] bcast_S4x1x3_S4x16384x3_0_1_2 p))))
    (constant S_ .f32 0x00000000#32) reducesTo_S4x16384x3_S4x16384_d2 h_S_

/-- The number of neighbours of every point, as the operations before the loop count it. -/
def count (pts : FVec F S4x16384x3 .f32) : FVec F S4x16384 .f32 :=
  sitofp .f32 (Host.reduce IntOp.addi (extui 32 (cmpf .olt (Host.reduceAdd
    (mulf
      (subf (broadcastInDim S4x16384x16384x3 ![0, 1, 2, 3] bcast_S4x16384x1x3_S4x16384x16384x3_0_1_2_3 (broadcastInDim S4x16384x1x3 ![0, 1, 3] bcast_S4x16384x3_S4x16384x1x3_0_1_3 pts))
        (broadcastInDim S4x16384x16384x3 ![0, 1, 2, 3] bcast_S4x1x16384x3_S4x16384x16384x3_0_1_2_3 (broadcastInDim S4x1x16384x3 ![0, 2, 3] bcast_S4x16384x3_S4x1x16384x3_0_2_3 pts)))
      (subf (broadcastInDim S4x16384x16384x3 ![0, 1, 2, 3] bcast_S4x16384x1x3_S4x16384x16384x3_0_1_2_3 (broadcastInDim S4x16384x1x3 ![0, 1, 3] bcast_S4x16384x3_S4x16384x1x3_0_1_3 pts))
        (broadcastInDim S4x16384x16384x3 ![0, 1, 2, 3] bcast_S4x1x16384x3_S4x16384x16384x3_0_1_2_3 (broadcastInDim S4x1x16384x3 ![0, 2, 3] bcast_S4x16384x3_S4x1x16384x3_0_2_3 pts))))
    (constant S_ .f32 0x00000000#32) reducesTo_S4x16384x16384x3_S4x16384x16384_d3 h_S_)
    (broadcastInDim S4x16384x16384 ![] bcast_S_S4x16384x16384 (constant S_ .f32 0x3E800000#32))) natLt_1_32)
    (constantI S_ 32 0#32) reducesTo_S4x16384x16384_S4x16384_d2 h_S_)

/-- The relative density, raised to the power one. -/
def gammaOf (d : FVec F S4x16384 .f32) : FVec F S4x16384 .f32 :=
  Host.powf (Host.divf d (broadcastInDim S4x16384 ![0, 1] bcast_S4x1_S4x16384_0_1 (broadcastInDim S4x1 ![0] bcast_S4_S4x1_0
    (Host.reduce FloatOps.maximumf d (constant S_ .f32 0xFF800000#32) reducesTo_S4x16384_S4_d1 h_S_))))
    (broadcastInDim S4x16384 ![] bcast_S_S4x16384 (constant S_ .f32 0x3F800000#32))

/-- The weights: three ones. -/
def ones : FVec F S3 .f32 := broadcastInDim S3 ![] bcast_S_S3 (constant S_ .f32 0x3F800000#32)

/-- The first point of each batch. -/
def firstPt (pts : FVec F S4x16384x3 .f32) : FVec F S4x1x3 .f32 :=
  extractStridedSlice S4x1x3 ![0, 0, 0] pts slices_S4x16384x3_S4x1x3_0_0_0

/-! ## The stretches' values -/

section
variable (V : Valuation τ sig (Elt F))

set_option maxHeartbeats 1000000 in
theorem body0_v29 : after body0 V (Proc.devRef .tc main_while0b_v29) = addi (V (Proc.devRef .tc main_v28_4)) (constantI S_ 32 1#32) := by
  simp only [body0]
  after_results_entrywise [cast_eq]

set_option maxHeartbeats 1000000 in
theorem body0_v30 : after body0 V (Proc.devRef .tc main_while0b_v30) = Host.divf (V (Proc.devRef .tc main_v28_6)) (V (Proc.devRef .tc main_v28_0)) := by
  simp only [body0]
  after_results_entrywise [cast_eq]

set_option maxHeartbeats 1000000 in
theorem body1_v31 : after body1 V (Proc.devRef .tc main_while0b_v31) = argmax (V (Proc.devRef .tc main_while0b_v30)) := by
  simp only [body1]
  after_results_entrywise [cast_eq, argmax]

set_option maxHeartbeats 2000000 in
theorem body2_v37 : after body2 V (Proc.devRef .tc main_while0b_v37) =
    put (V (Proc.devRef .tc main_v28_5)) (V (Proc.devRef .tc main_while0b_v31)) (V (Proc.devRef .tc main_v28_4)) := by
  simp only [body2]
  after_results_entrywise [cast_eq, put, id]

set_option maxHeartbeats 1000000 in
theorem body2_v38 : after body2 V (Proc.devRef .tc main_while0b_v38) =
    broadcastInDim S4x1x1 ![0] bcast_S4_S4x1x1_0 (V (Proc.devRef .tc main_while0b_v31)) := by
  simp only [body2]
  after_results_entrywise [cast_eq]

set_option maxHeartbeats 2000000 in
theorem body3_v39 (n : Vec F S4 .i32) (h : V (Proc.devRef .tc main_while0b_v38) = broadcastInDim S4x1x1 ![0] bcast_S4_S4x1x1_0 n) :
    after body3 V (Proc.devRef .tc main_while0b_v39) = chosen (V (Proc.devRef .tc main_v28_1)) n := by
  simp only [body3]
  after_results_entrywise [cast_eq, chosen, h]

set_option maxHeartbeats 2000000 in
theorem body4_v28_6 : after body4 V (Proc.devRef .tc main_v28_6) =
    minimumf (V (Proc.devRef .tc main_v28_6)) (distTo (V (Proc.devRef .tc main_v28_1)) (V (Proc.devRef .tc main_v28_2)) (V (Proc.devRef .tc main_while0b_v39))) := by
  simp only [body4]
  after_results_entrywise [cast_eq, distTo, id]

set_option maxHeartbeats 1000000 in
theorem body4_v28_5 : after body4 V (Proc.devRef .tc main_v28_5) = V (Proc.devRef .tc main_while0b_v37) := by
  simp only [body4]
  after_results_entrywise [cast_eq, id]

set_option maxHeartbeats 1000000 in
theorem body4_v28_4 : after body4 V (Proc.devRef .tc main_v28_4) = V (Proc.devRef .tc main_while0b_v29) := by
  simp only [body4]
  after_results_entrywise [cast_eq, id]

set_option maxHeartbeats 1000000 in
theorem body4_v28_3 : after body4 V (Proc.devRef .tc main_v28_3) = addi (V (Proc.devRef .tc main_v28_3)) (constantI S_ 32 1#32) := by
  simp only [body4]
  after_results_entrywise [cast_eq, id]

set_option maxHeartbeats 2000000 in
theorem preA_v12 : after preA V (Proc.devRef .tc main_v12) = count (V (Proc.devRef .tc main_arg0)) := by
  simp only [preA]
  after_results_entrywise [cast_eq, count]

set_option maxHeartbeats 1000000 in
theorem preA_v0 : after preA V (Proc.devRef .tc main_v0) = ones := by
  simp only [preA]
  after_results_entrywise [cast_eq, ones]

theorem preA_arg0 : after preA V (Proc.devRef .tc main_arg0) = V (Proc.devRef .tc main_arg0) :=
  after_of_writes_sub preA V preA_writes (by decide +kernel)

set_option maxHeartbeats 2000000 in
theorem preB_v28_0 : after preB V (Proc.devRef .tc main_v28_0) = gammaOf (V (Proc.devRef .tc main_v12)) := by
  simp only [preB]
  after_results_entrywise [cast_eq, gammaOf, id]

set_option maxHeartbeats 2000000 in
theorem preB_v28_1 : after preB V (Proc.devRef .tc main_v28_1) = V (Proc.devRef .tc main_arg0) := by
  simp only [preB]
  after_results_entrywise [cast_eq, id]

set_option maxHeartbeats 2000000 in
theorem preB_v28_2 : after preB V (Proc.devRef .tc main_v28_2) = V (Proc.devRef .tc main_v0) := by
  simp only [preB]
  after_results_entrywise [cast_eq, id]

set_option maxHeartbeats 2000000 in
theorem preB_v28_3 : after preB V (Proc.devRef .tc main_v28_3) = constantI S_ 32 0#32 := by
  simp only [preB]
  after_results_entrywise [cast_eq, id]

set_option maxHeartbeats 2000000 in
theorem preB_v28_4 : after preB V (Proc.devRef .tc main_v28_4) = constantI S_ 32 1#32 := by
  simp only [preB]
  after_results_entrywise [cast_eq, id]

set_option maxHeartbeats 2000000 in
theorem preB_v28_5 : after preB V (Proc.devRef .tc main_v28_5) = broadcastInDim S4x2048 ![] bcast_S_S4x2048 (constantI S_ 32 0#32) := by
  simp only [preB]
  after_results_entrywise [cast_eq, id]

set_option maxHeartbeats 2000000 in
theorem preB_v28_6 : after preB V (Proc.devRef .tc main_v28_6) =
    distTo (V (Proc.devRef .tc main_arg0)) (V (Proc.devRef .tc main_v0)) (firstPt (V (Proc.devRef .tc main_arg0))) := by
  simp only [preB]
  after_results_entrywise [cast_eq, id, distTo, firstPt]

end

/-! ## One trip -/

/-- The body from any contents: its five stretches in order. -/
theorem body_eq (V : Valuation τ sig (Elt F)) : afterL bodyI V = after body4 (after body3 (after body2 (after body1 (after body0 V)))) := by
  simp only [bodyI, afterL_cons, afterL_nil]

/-- A buffer that no operation of the loop's condition or body writes keeps its contents over a trip. -/
theorem trip_keep (V : Valuation τ sig (Elt F)) (r : Ref sig .tc) (h : r ∉ condOps_W ++ body0_W ++ body1_W ++ body2_W ++ body3_W ++ body4_W) :
    afterL bodyI (after condOps V) (Proc.devRef .tc r) = V (Proc.devRef .tc r) := by
  simp only [List.mem_append, not_or] at h
  obtain ⟨⟨⟨⟨⟨hc, h0⟩, h1⟩, h2⟩, h3⟩, h4⟩ := h
  rw [body_eq, keep4 _ r h4, keep3 _ r h3, keep2 _ r h2, keep1 _ r h1, keep0 _ r h0, keepC _ r hc]

/-- The trip counter steps by one. -/
theorem trip_ctr (V : Valuation τ sig (Elt F)) : afterL bodyI (after condOps V) (Proc.devRef .tc main_v28_3) =
    addi (V (Proc.devRef .tc main_v28_3)) (constantI S_ 32 1#32) := by
  rw [body_eq, body4_v28_3, keep3 _ _ (by decide +kernel), keep2 _ _ (by decide +kernel), keep1 _ _ (by decide +kernel), keep0 _ _ (by decide +kernel), keepC _ _ (by decide +kernel)]

/-- The column counter steps by one. -/
theorem trip_col (V : Valuation τ sig (Elt F)) : afterL bodyI (after condOps V) (Proc.devRef .tc main_v28_4) =
    addi (V (Proc.devRef .tc main_v28_4)) (constantI S_ 32 1#32) := by
  rw [body_eq, body4_v28_4, keep3 _ _ (by decide +kernel), keep2 _ _ (by decide +kernel), keep1 _ _ (by decide +kernel), body0_v29, keepC _ _ (by decide +kernel)]

/-- The result gains the argmax of the score at the column counter. -/
theorem trip_out (V : Valuation τ sig (Elt F)) : afterL bodyI (after condOps V) (Proc.devRef .tc main_v28_5) =
    put (V (Proc.devRef .tc main_v28_5)) (argmax (Host.divf (V (Proc.devRef .tc main_v28_6)) (V (Proc.devRef .tc main_v28_0))))
      (V (Proc.devRef .tc main_v28_4)) := by
  rw [body_eq, body4_v28_5, keep3 _ _ (by decide +kernel), body2_v37, keep1 _ _ (by decide +kernel), keep0 _ _ (by decide +kernel), keepC _ main_v28_5 (by decide +kernel),
    body1_v31, body0_v30, keepC _ main_v28_6 (by decide +kernel), keepC _ main_v28_0 (by decide +kernel),
    keep1 _ main_v28_4 (by decide +kernel), keep0 _ main_v28_4 (by decide +kernel), keepC _ main_v28_4 (by decide +kernel)]

/-- The lowest distances are lowered by the distances to the points chosen. -/
theorem trip_min (V : Valuation τ sig (Elt F)) : afterL bodyI (after condOps V) (Proc.devRef .tc main_v28_6) =
    minimumf (V (Proc.devRef .tc main_v28_6)) (distTo (V (Proc.devRef .tc main_v28_1)) (V (Proc.devRef .tc main_v28_2))
      (chosen (V (Proc.devRef .tc main_v28_1)) (argmax (Host.divf (V (Proc.devRef .tc main_v28_6)) (V (Proc.devRef .tc main_v28_0)))))) := by
  have k (r : Ref sig .tc) (h0 : r ∉ condOps_W ++ body0_W ++ body1_W ++ body2_W) :
      after body2 (after body1 (after body0 (after condOps V))) (Proc.devRef .tc r) = V (Proc.devRef .tc r) := by
    simp only [List.mem_append, not_or] at h0
    rw [keep2 _ r h0.2, keep1 _ r h0.1.2, keep0 _ r h0.1.1.2, keepC _ r h0.1.1.1]
  have hn := body2_v38 (after body1 (after body0 (after condOps V)))
  rw [body_eq, body4_v28_6, body3_v39 _ _ hn, keep3 _ main_v28_6 (by decide +kernel), keep3 _ main_v28_1 (by decide +kernel), keep3 _ main_v28_2 (by decide +kernel),
    k main_v28_6 (by decide +kernel), k main_v28_1 (by decide +kernel), k main_v28_2 (by decide +kernel),
    body1_v31, body0_v30, keepC _ main_v28_6 (by decide +kernel), keepC _ main_v28_0 (by decide +kernel)]

/-! ## The trips -/

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

theorem atK_succ (k : ℕ) (c : Dev nD) : atK m (k + 1) c = afterL bodyI (after condOps (atK m k c)) := rfl

/-- The points. -/
abbrev pts (c : Dev nD) : FVec F S4x16384x3 .f32 := m ((c.tc : Thread nD τ).loc main_arg0)

/-- The relative density. -/
def gamma (p : FVec F S4x16384x3 .f32) : FVec F S4x16384 .f32 := gammaOf (count p)

/-- The lowest distances after `k` trips. -/
def low (p : FVec F S4x16384x3 .f32) : ℕ → FVec F S4x16384 .f32
  | 0 => distTo p ones (firstPt p)
  | k + 1 => minimumf (low p k) (distTo p ones (chosen p (argmax (Host.divf (low p k) (gamma p)))))

/-- The column counter after `k` trips. -/
def col : ℕ → Vec F S_ .i32
  | 0 => constantI S_ 32 1#32
  | k + 1 => addi (col k) (constantI S_ 32 1#32)

/-- The result after `k` trips. -/
def out (p : FVec F S4x16384x3 .f32) : ℕ → Vec F S4x2048 .i32
  | 0 => broadcastInDim S4x2048 ![] bcast_S_S4x2048 (constantI S_ 32 0#32)
  | k + 1 => put (out p k) (argmax (Host.divf (low p k) (gamma p))) (col (F := F) k)

theorem entry_eq (c : Dev nD) (r : Ref sig .tc) : atK m 0 c (Proc.devRef .tc r) =
    after preB (after preA (fun b => m (c, b))) (Proc.devRef .tc r) := by
  rw [show atK m 0 c = entryContents preI m c from rfl]
  simp only [entryContents, afterL_cons, afterL_nil, pre0_cut, after_append]

/-- The carried buffers after `k` trips. -/
theorem atK_vals (c : Dev nD) : ∀ k, atK m k c (Proc.devRef .tc main_v28_0) = gamma (pts m c)
    ∧ atK m k c (Proc.devRef .tc main_v28_1) = pts m c ∧ atK m k c (Proc.devRef .tc main_v28_2) = ones
    ∧ atK m k c (Proc.devRef .tc main_v28_4) = col k ∧ atK m k c (Proc.devRef .tc main_v28_5) = out (pts m c) k
    ∧ atK m k c (Proc.devRef .tc main_v28_6) = low (pts m c) k
  | 0 => by
    refine ⟨?_, ?_, ?_, ?_, ?_, ?_⟩
    · rw [entry_eq, preB_v28_0, preA_v12, gamma]
    · rw [entry_eq, preB_v28_1, preA_arg0]
    · rw [entry_eq, preB_v28_2, preA_v0]
    · rw [entry_eq, preB_v28_4]; rfl
    · rw [entry_eq, preB_v28_5]; rfl
    · rw [entry_eq, preB_v28_6, preA_arg0, preA_v0]; rfl
  | k + 1 => by
    obtain ⟨h0, h1, h2, h4, h5, h6⟩ := atK_vals c k
    rw [atK_succ]
    refine ⟨?_, ?_, ?_, ?_, ?_, ?_⟩
    · rw [trip_keep _ main_v28_0 (by decide +kernel), h0]
    · rw [trip_keep _ main_v28_1 (by decide +kernel), h1]
    · rw [trip_keep _ main_v28_2 (by decide +kernel), h2]
    · rw [trip_col, h4]; rfl
    · rw [trip_out, h5, h6, h0, h4]; rfl
    · rw [trip_min, h6, h1, h2, h0]; rfl

/-- Before the `k`-th condition the trip counter is `k`. -/
theorem atK_ctr (c : Dev nD) : ∀ k, atK m k c (Proc.devRef .tc main_v28_3) = fun _ => Scf.iv 0#32 1#32 k
  | 0 => by rw [entry_eq, preB_v28_3, Scf.iv_zero]; rfl
  | k + 1 => by rw [atK_succ, trip_ctr, atK_ctr c k, Scf.iv_succ]; rfl

/-- A buffer nothing writes holds its launch contents throughout. -/
theorem atK_keep (c : Dev nD) (r : Ref sig .tc) (hp : r ∉ pre0_W) (h : r ∉ condOps_W ++ body0_W ++ body1_W ++ body2_W ++ body3_W ++ body4_W) :
    ∀ k, atK m k c (Proc.devRef .tc r) = m ((c.tc : Thread nD τ).loc r)
  | 0 => by
    rw [show atK m 0 c = entryContents preI m c from rfl]
    simp only [entryContents, afterL_cons, afterL_nil]
    rw [keepP _ r hp]
  | k + 1 => by rw [atK_succ, trip_keep _ r h, atK_keep c r hp h k]

/-! ## The run -/

set_option backward.isDefEq.respectTransparency.types false in
/-- The condition, run before the `k`-th trip, answers whether `k < 2047`. -/
theorem cond_spec : CondSpec (pcfgs (F := F)) defs₀ loops (main_while0_cond (F := F)) condOps bodyI (entryContents preI m) 2047 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v28_3 HostLoop.idx0)
        (HloOp.result _ (atK m k c) main_while0c_c_14 HostLoop.idx0) = 1#1) (k < 2047)
    rw [nullary_result_ne _ _ _ _ (by decide), nullary_result, hctr]
    exact Scf.cmpi_slt_iv_ub_iff (lb := 0#32) (ub := 2047#32) (st := 1#32) (by decide) (show k ≤ Scf.trips 0#32 2047#32 1#32 from hk)
  isplitl [Hb]; · iexact Hb
  rw [after_cons, after_cons, after_nil]; iexact Hh

set_option maxRecDepth 100000 in
/-- Every execution ends with every buffer at the fold of the operations. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 2047 m c (Proc.devRef .tc b)) :=
  run_loop (pcfgs (F := F)) defs₀ loops main 0 main_while0_cond main_while0_body rfl preI bodyI postI condOps plain_pre plain_body plain_post
    (fun c => by rw [main_chain]; rfl) (by rw [body_chain]; rfl) 2047 m ρ (cond_spec m)

/-- The fold at a buffer that the condition does not write. -/
theorem final_eq (c : Dev nD) (r : Ref sig .tc) (h : r ∉ condOps_W) :
    finalContents condOps preI bodyI postI 2047 m c (Proc.devRef .tc r) = atK m 2047 c (Proc.devRef .tc r) := by
  simp only [finalContents, afterL_nil]
  exact keepC _ r h

/-- THE RUN: every execution ends with the result at `out` after 2047 trips and the arguments as they were. -/
theorem run : θ_run (defs (F := F)) (onTc (τ := τ) (main (F := F))) ⟨m, fun _ => 0, ρ⟩
    (fun r => (∀ c : Dev nD, r.2.mem ((c.tc : Thread nD τ).loc main_v28_5) = out (pts m c) 2047
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine (θ_run defs _ _).mono (fun r h => ⟨fun c => ?_, sem_eq_zero_of_no_sems rfl _⟩) (run_fold m ρ)
  refine ⟨?_, ?_, ?_⟩
  · rw [h c main_v28_5 rfl, final_eq m c _ (by decide +kernel)]; exact (atK_vals m c 2047).2.2.2.2.1
  · rw [h c main_arg0 rfl, final_eq m c _ (by decide +kernel)]; exact atK_keep m c _ (by decide +kernel) (by decide +kernel) 2047
  · rw [h c main_arg1 rfl, final_eq m c _ (by decide +kernel)]; exact atK_keep m c _ (by decide +kernel) (by decide +kernel) 2047

end Cert.ReferenceIdeal.Hand

end
-- ==== Proof.ReferenceIdeal.Value.lean ====
module

public import proofs.«01_k».proof.Proof.ReferenceIdeal.Run
public import proofs.«01_k».proof.Proof.Math.Spec
public import proofs.«01_k».proof.Proof.Math.Words
public import Idealize.ShloMosaic.Lib.Pointwise

/-! The reference's values over the extended reals, entry by entry: the numbers of neighbours, the distances, the
argmax, the chosen points, the result. -/

@[expose] public section

set_option maxRecDepth 16384

noncomputable section

namespace Cert.ReferenceIdeal.Hand

open Cert.ReferenceIdeal Cert.ReferenceIdeal.Gen
open Idealize.ShloMosaic Idealize.ShloMosaic.TcCoe
open Cert.Spec (Cloud)

/-- The points of batch `b`. -/
def cloud (p : FVec Ideal S4x16384x3 .f32) (b : Fin 4) : Cloud := fun n d => p (ix3 b n d)

/-- The number of neighbours. -/
theorem count_apply (p : FVec Ideal S4x16384x3 .f32) (b : Fin 4) (n : Fin 16384) :
    count (F := Ideal) p (ix2 b n) = Spec.dens (cloud p b) n := by
  pointwise [count]
  refine Eq.trans ?_ (Spec.count_words (by decide) (fun m => Spec.near (cloud p b) n m) _ fun m => rfl)
  show (((Finset.univ.fold IntOp.addi 0#32 _).toInt : ℝ) : EReal) = _
  congr 4
  funext m
  congr 2
  unfold Spec.near Spec.sq cloud
  simp only [Fin.sum_univ_three]
  congr

/-- The relative density. -/
theorem gamma_apply (p : FVec Ideal S4x16384x3 .f32) (b : Fin 4) (n : Fin 16384) :
    gamma (F := Ideal) p (ix2 b n) = Spec.rel (cloud p b) n := by
  unfold gamma
  pointwise [gammaOf]
  rw [Spec.pow_one]
  simp only [count_apply]
  rfl

/-- The distance of every point to a given one. -/
theorem distTo_apply (p : FVec Ideal S4x16384x3 .f32) (q : FVec Ideal S4x1x3 .f32) (b : Fin 4) (n : Fin 16384)
    (k : Fin 16384) (hq : ∀ d, q (ix3 b 0 d) = p (ix3 b k d)) :
    distTo (F := Ideal) p ones q (ix2 b n) = Spec.away (cloud p b) k n := by
  pointwise [distTo, ones]
  rw [Fin.sum_univ_three]
  simp only [hq, one_mul]
  rfl

theorem firstPt_apply (p : FVec Ideal S4x16384x3 .f32) (b : Fin 4) (d : Fin 3) :
    firstPt (F := Ideal) p (ix3 b 0 d) = p (ix3 b 0 d) := by
  pointwise [firstPt]

end Cert.ReferenceIdeal.Hand

end
-- ==== Proof.ReferenceIdeal.Choice.lean ====
module

public import proofs.«01_k».proof.Proof.ReferenceIdeal.Value

/-! The reference's argmax is the position of the first largest entry; the gather reads the chosen point. -/

@[expose] public section

set_option maxRecDepth 16384

noncomputable section

namespace Cert.ReferenceIdeal.Hand

open Cert.ReferenceIdeal Cert.ReferenceIdeal.Gen
open Idealize.ShloMosaic Idealize.ShloMosaic.TcCoe
open Cert.Spec (Cloud)

/-- A pair (value, index) is at least as good as another: its value is larger, or equal and its index no later. -/
def Better (r e : EReal × BitVec 32) : Prop := e.1 < r.1 ∨ (e.1 = r.1 ∧ r.2.toInt ≤ e.2.toInt)

theorem Better.refl (r : EReal × BitVec 32) : Better r r := Or.inr ⟨rfl, le_rfl⟩

theorem Better.trans {a b c : EReal × BitVec 32} (h : Better a b) (h' : Better b c) : Better a c := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- The comparison keeps one of its two pairs, and that one is at least as good as both. -/
theorem reducer_spec (a b : EReal × BitVec 32) :
    (reducer_argmax_f32_i32 (F := Ideal) a b = a ∨ reducer_argmax_f32_i32 (F := Ideal) a b = b)
      ∧ Better (reducer_argmax_f32_i32 (F := Ideal) a b) a ∧ Better (reducer_argmax_f32_i32 (F := Ideal) a b) b := by
  obtain ⟨a1, a2⟩ := a
  obtain ⟨b1, b2⟩ := b
  rcases lt_trichotomy a1 b1 with h | h | h
  · have e : reducer_argmax_f32_i32 (F := Ideal) (a1, a2) (b1, b2) = (b1, b2) := by
      simp [reducer_argmax_f32_i32, Scalar.select, FloatOps.cmpf, Ideal.cmp, Scalar.ori, Scalar.andi, IntOp.ori, IntOp.andi, h.ne, h.not_gt]
    rw [e]
    exact ⟨Or.inr rfl, Or.inl h, Better.refl _⟩
  · subst h
    by_cases hs : a2.slt b2
    · have e : reducer_argmax_f32_i32 (F := Ideal) (a1, a2) (a1, b2) = (a1, a2) := by
        simp [reducer_argmax_f32_i32, Scalar.select, FloatOps.cmpf, Ideal.cmp, Scalar.ori, Scalar.andi, IntOp.ori, IntOp.andi, Scalar.cmpi, IntOp.cmpi, hs]
      rw [e]
      refine ⟨Or.inl rfl, Better.refl _, Or.inr ⟨rfl, ?_⟩⟩
      rw [BitVec.slt_eq_decide, decide_eq_true_eq] at hs
      exact le_of_lt hs
    · have e : reducer_argmax_f32_i32 (F := Ideal) (a1, a2) (a1, b2) = (a1, b2) := by
        simp [reducer_argmax_f32_i32, Scalar.select, FloatOps.cmpf, Ideal.cmp, Scalar.ori, Scalar.andi, IntOp.ori, IntOp.andi, Scalar.cmpi, IntOp.cmpi, hs]
      rw [e]
      refine ⟨Or.inr rfl, Or.inr ⟨rfl, ?_⟩, Better.refl _⟩
      rw [BitVec.slt_eq_decide, decide_eq_true_eq] at hs
      exact not_lt.1 hs
  · have e : reducer_argmax_f32_i32 (F := Ideal) (a1, a2) (b1, b2) = (a1, a2) := by
      simp [reducer_argmax_f32_i32, Scalar.select, FloatOps.cmpf, Ideal.cmp, Scalar.ori, Scalar.andi, IntOp.ori, IntOp.andi, h]
      exact fun hc => absurd ((show ∀ x : BitVec 1, 1#1 ||| x = 1#1 by decide) _) hc
    rw [e]
    exact ⟨Or.inl rfl, Better.refl _, Or.inl h⟩

/-- The comparison folded over a list: the result is the start or a member, and at least as good as all of them. -/
theorem foldl_reducer (L : List (EReal × BitVec 32)) (a : EReal × BitVec 32) :
    (L.foldl (reducer_argmax_f32_i32 (F := Ideal)) a = a ∨ L.foldl (reducer_argmax_f32_i32 (F := Ideal)) a ∈ L)
      ∧ Better (L.foldl (reducer_argmax_f32_i32 (F := Ideal)) a) a
      ∧ ∀ e ∈ L, Better (L.foldl (reducer_argmax_f32_i32 (F := Ideal)) a) e := by
  induction L generalizing a with
  | nil => exact ⟨Or.inl rfl, Better.refl _, fun e h => absurd h List.not_mem_nil⟩
  | cons b L ih =>
    obtain ⟨h1, h2, h3⟩ := ih (reducer_argmax_f32_i32 (F := Ideal) a b)
    obtain ⟨g1, g2, g3⟩ := reducer_spec a b
    rw [List.foldl_cons]
    refine ⟨?_, h2.trans g2, ?_⟩
    · rcases h1 with h1 | h1
      · rw [h1]
        rcases g1 with g | g
        · exact Or.inl g
        · exact Or.inr (by rw [g]; exact List.mem_cons_self)
      · exact Or.inr (List.mem_cons_of_mem _ h1)
    · intro e he
      rcases List.mem_cons.1 he with rfl | he
      · exact h2.trans g3
      · exact h3 e he

/-- The members of the list the argmax folds over: the entries of a batch with their positions. -/
theorem mem_fiber (s : FVec Ideal S4x16384 .f32) (b : Fin 4) (e : EReal × BitVec 32) :
    e ∈ Host.argReduceFiber s (iotaInDim S4x16384 32 1) reducesTo_S4x16384_S4_d1 (ix1 b)
      ↔ ∃ n : Fin 16384, e = (s (ix2 b n), BitVec.ofNat 32 n.val) := by
  have hd : ∀ i : S4x16384.Idx, Shape.ReducesTo.drop reducesTo_S4x16384_S4_d1 i = ix1 b ↔ i 0 = b := by
    intro i
    have hv : (Shape.ReducesTo.drop reducesTo_S4x16384_S4_d1 i 0 : Nat) = i 0 :=
      Shape.ReducesTo.drop_apply_val_of_eq reducesTo_S4x16384_S4_d1 i 0 0
    constructor
    · intro h
      rw [h] at hv
      exact Fin.ext hv.symm
    · intro h
      funext a
      have ha : a = 0 := Subsingleton.elim _ _
      subst ha
      exact Fin.ext (hv.trans (congrArg Fin.val h))
  unfold Host.argReduceFiber
  simp only [List.mem_map, List.mem_filter, List.mem_finRange, true_and, decide_eq_true_eq]
  constructor
  · rintro ⟨k, hk, rfl⟩
    rw [hd] at hk
    refine ⟨(S4x16384.rowMajor.symm k) 1, ?_⟩
    generalize S4x16384.rowMajor.symm k = i at hk ⊢
    rw [← hk]
    refine Prod.ext ?_ rfl
    show s i = s (ix2 (i 0) (i 1))
    congr 1
    exact eq_ix2 i
  · rintro ⟨n, rfl⟩
    refine ⟨S4x16384.rowMajor (ix2 b n), ?_, ?_⟩
    · rw [Equiv.symm_apply_apply, hd]; rfl
    · rw [Equiv.symm_apply_apply]; rfl

/-- The argmax of a batch is the position of its first largest entry. -/
theorem argmax_apply (s : FVec Ideal S4x16384 .f32) (b : Fin 4) :
    argmax (F := Ideal) s (ix1 b) = BitVec.ofNat 32 (Spec.first fun n => s (ix2 b n)).val := by
  unfold argmax
  rw [Ideal.argReduce_eq_reduce2, Host.reduce2_eq_foldl_fiber]
  set L := Host.argReduceFiber s (iotaInDim S4x16384 32 1) reducesTo_S4x16384_S4_d1 (ix1 b) with hL
  obtain ⟨h1, h2, h3⟩ := foldl_reducer L (Ideal.ofBits FTy.f32 4286578688#32, 0#32)
  show (L.foldl (reducer_argmax_f32_i32 (F := Ideal)) (Ideal.ofBits FTy.f32 4286578688#32, 0#32)).2 = _
  set r := L.foldl (reducer_argmax_f32_i32 (F := Ideal)) (Ideal.ofBits FTy.f32 4286578688#32, 0#32) with hr
  have hm : ∃ n : Fin 16384, r = (s (ix2 b n), BitVec.ofNat 32 n.val) := by
    rcases h1 with h | h
    · refine ⟨0, ?_⟩
      have hb := h3 _ ((mem_fiber s b _).2 ⟨0, rfl⟩)
      rw [h, Spec.negInf] at hb
      rw [h, Spec.negInf]
      rcases hb with hb | ⟨hb, -⟩
      · exact absurd hb not_lt_bot
      · exact Prod.ext hb.symm rfl
    · exact (mem_fiber s b _).1 h
  obtain ⟨i, hi⟩ := hm
  have hbest : ∀ n : Fin 16384, Better r (s (ix2 b n), BitVec.ofNat 32 n.val) := fun n =>
    h3 _ ((mem_fiber s b _).2 ⟨n, rfl⟩)
  have hfi : i = Spec.first fun n => s (ix2 b n) := by
    apply Spec.eq_first
    · intro n
      rcases hbest n with h | ⟨h, -⟩
      · rw [hi] at h; exact le_of_lt h
      · rw [hi] at h; exact le_of_eq h
    · intro n hn
      rcases hbest n with h | ⟨-, h⟩
      · rw [hi] at h; exact absurd hn (ne_of_lt h)
      · rw [hi] at h
        have h' : (BitVec.ofNat 32 i.val).toInt ≤ (BitVec.ofNat 32 n.val).toInt := h
        rw [Spec.toInt_ofNat (by have := i.isLt; omega), Spec.toInt_ofNat (by have := n.isLt; omega)] at h'
        exact_mod_cast h'
  rw [hi, ← hfi]

/-- The gather reads the point at the index given. -/
theorem chosen_apply (p : FVec Ideal S4x16384x3 .f32) (i : Vec Ideal S4 .i32) (b : Fin 4) (k : Fin 16384)
    (hi : i (ix1 b) = BitVec.ofNat 32 k.val) (d : Fin 3) :
    chosen (F := Ideal) p i (ix3 b 0 d) = p (ix3 b k d) := by
  unfold chosen Host.gather
  congr 1
  have hk : (BitVec.ofNat 32 k.val).toInt = k.val := Spec.toInt_ofNat (by have := k.isLt; omega)
  funext a
  apply Fin.ext
  fin_cases a
  · show (0 : ℕ) + b.val + 0 = b.val
    omega
  · show min (Int.toNat (BitVec.toInt _)) (16384 - 1) + 0 + 0 = k.val
    have hs : ∀ w : BitVec 32, w = BitVec.ofNat 32 k.val →
        Scalar.select (IntOp.cmpi .slt w 0#32) (IntOp.addi w 16384#32) w = BitVec.ofNat 32 k.val := by
      rintro w rfl
      have : (BitVec.ofNat 32 k.val).slt 0#32 = false := by
        rw [BitVec.slt_eq_decide, hk]
        simp
      simp only [IntOp.cmpi, this, Scalar.select]
      rfl
    have hmin : ∀ x : BitVec 32, x = BitVec.ofNat 32 k.val → min x.toInt.toNat (16384 - 1) + 0 + 0 = k.val := by
      rintro x rfl
      rw [hk]
      have := k.isLt
      simp only [Int.toNat_natCast]
      omega
    refine hmin _ (hs _ (Eq.trans (congrArg i ?_) hi))
    funext a
    fin_cases a
    exact Fin.ext rfl
  · show (0 : ℕ) + 0 + d.val = d.val
    omega

end Cert.ReferenceIdeal.Hand

end
-- ==== Proof.ReferenceIdeal.Result.lean ====
module

public import proofs.«01_k».proof.Proof.ReferenceIdeal.Choice

/-! The reference's result: entry `t` of batch `b` is the sampling's entry `t` of that batch's points. -/

@[expose] public section

set_option maxRecDepth 16384

noncomputable section

namespace Cert.ReferenceIdeal.Hand

open Cert.ReferenceIdeal Cert.ReferenceIdeal.Gen
open Idealize.ShloMosaic Idealize.ShloMosaic.TcCoe
open Cert.Spec (Cloud)

variable (p : FVec Ideal S4x16384x3 .f32)

/-- The score of a point, given the lowest distances. -/
theorem score_apply (s : FVec Ideal S4x16384 .f32) (b : Fin 4) (n : Fin 16384) :
    Host.divf s (gamma p) (ix2 b n) = Spec.score (cloud p b) (fun k => s (ix2 b k)) n := by
  have h : ∀ g : FVec Ideal S4x16384 .f32, Host.divf s g (ix2 b n) = Ideal.div (s (ix2 b n)) (g (ix2 b n)) := by
    intro g
    pointwise []
  rw [h, gamma_apply]
  rfl

/-- The lowest distances after `k` trips. -/
theorem low_apply (k : ℕ) : ∀ (b : Fin 4) (n : Fin 16384), low p k (ix2 b n) = Spec.low (cloud p b) k n := by
  induction k with
  | zero => exact fun b n => distTo_apply p _ b n 0 fun d => firstPt_apply p b d
  | succ k ih =>
    intro b n
    show min (low p k (ix2 b n)) (distTo p ones (chosen p (argmax (Host.divf (low p k) (gamma p)))) (ix2 b n)) = _
    rw [ih, distTo_apply p _ b n (Spec.first (Spec.score (cloud p b) (Spec.low (cloud p b) k)))]
    · rfl
    · intro d
      refine chosen_apply p _ b _ ?_ d
      rw [argmax_apply]
      simp only [score_apply, ih]

/-- The index chosen at trip `k`. -/
theorem choice_apply (k : ℕ) (b : Fin 4) :
    argmax (Host.divf (low p k) (gamma p)) (ix1 b) = BitVec.ofNat 32 (Spec.next (cloud p b) k).val := by
  rw [argmax_apply]
  simp only [score_apply, low_apply]
  rfl

/-- The column written at trip `k`. -/
theorem col_apply (k : ℕ) (j : S_.Idx) : col (F := Ideal) k j = BitVec.ofNat 32 (k + 1) := by
  induction k with
  | zero => rfl
  | succ k ih =>
    show IntOp.addi (col (F := Ideal) k j) 1#32 = _
    rw [ih]
    exact (BitVec.ofNat_add (k + 1) 1).symm

/-- One write: the column named gets the indices, every other column stays. -/
theorem put_apply (o : Vec Ideal S4x2048 .i32) (i : Vec Ideal S4 .i32) (t : Vec Ideal S_ .i32) (k : ℕ) (hk : k < 2048)
    (ht : ∀ j, t j = BitVec.ofNat 32 k) (b : Fin 4) (n : Fin 2048) :
    put (F := Ideal) o i t (ix2 b n) = if n.val = k then i (ix1 b) else o (ix2 b n) := by
  have h0 : Host.clampedStart S4x2048 S4x1 rfl (fun a => BitVec.toInt ((![constantI S_ 32 0#32,
      select (cmpi CmpIPredicate.slt t (constantI S_ 32 0#32)) (addi t (constantI S_ 32 2048#32)) t] : Fin 2 → Vec Ideal S_ .i32)
        a (Shape.Idx.first h_S_))) 0 = 0 :=
    Host.clampedStart_of_le _ _ _ 0 rfl (by decide)
  have hs : (select (cmpi CmpIPredicate.slt t (constantI S_ 32 0#32)) (addi t (constantI S_ 32 2048#32)) t) (Shape.Idx.first h_S_)
      = BitVec.ofNat 32 k := by
    show Scalar.select (IntOp.cmpi .slt (t _) 0#32) (IntOp.addi (t _) 2048#32) (t _) = _
    rw [ht]
    have : (BitVec.ofNat 32 k).slt 0#32 = false := by
      rw [BitVec.slt_eq_decide, Spec.toInt_ofNat (by omega)]
      simp
    simp only [IntOp.cmpi, this, Scalar.select]
    rfl
  have h1 : Host.clampedStart S4x2048 S4x1 rfl (fun a => BitVec.toInt ((![constantI S_ 32 0#32,
      select (cmpi CmpIPredicate.slt t (constantI S_ 32 0#32)) (addi t (constantI S_ 32 2048#32)) t] : Fin 2 → Vec Ideal S_ .i32)
        a (Shape.Idx.first h_S_))) 1 = k :=
    Host.clampedStart_of_le _ _ _ k ((congrArg BitVec.toInt hs).trans (Spec.toInt_ofNat (by omega)))
      (show k + 1 ≤ 2048 by omega)
  pointwise [put]
  simp only [h0, h1]
  by_cases h : n.val = k
  · rw [dif_pos ⟨Nat.zero_le _, by omega, by omega⟩, if_pos h]
    rfl
  · rw [dif_neg (by omega), if_neg h]

/-- The result after `k` trips: the entries up to `k` are the sampling's, the others zero. -/
theorem out_apply (k : ℕ) (hk : k < 2048) (b : Fin 4) (t : Fin 2048) :
    out p k (ix2 b t) = if t.val ≤ k then Spec.res (cloud p b) t.val else 0#32 := by
  induction k with
  | zero =>
    show (0#32 : BitVec 32) = _
    split
    · rw [Spec.res, if_pos (by omega)]
    · rfl
  | succ k ih =>
    show put (out p k) (argmax (Host.divf (low p k) (gamma p))) (col (F := Ideal) k) (ix2 b t) = _
    rw [put_apply _ _ _ (k + 1) hk (col_apply k), ih (by omega), choice_apply]
    by_cases h : t.val = k + 1
    · rw [if_pos h, if_pos (by omega), Spec.res, if_neg (by omega), h]
      rfl
    · rw [if_neg h]
      by_cases h' : t.val ≤ k
      · rw [if_pos h', if_pos (by omega)]
      · rw [if_neg h', if_neg (by omega)]

/-- The whole result. -/
theorem result_apply (b : Fin 4) (t : Fin 2048) : out p 2047 (ix2 b t) = Spec.res (cloud p b) t.val := by
  rw [out_apply p 2047 (by decide), if_pos (by have := t.isLt; omega)]

end Cert.ReferenceIdeal.Hand

end
-- ==== Proof.lean ====
/- The five claims, assembled from the runs of the three programs and from the two programs' values. -/
module

public import proofs.«01_k».proof.Defs
public import proofs.«01_k».proof.Proof.Kernel.Run
public import proofs.«01_k».proof.Proof.KernelIdeal.Value
public import proofs.«01_k».proof.Proof.ReferenceIdeal.Result
public import Idealize.ShloMosaic.Adequacy
public import Idealize.ShloMosaic.Init

@[expose] public section

noncomputable section

namespace Cert.Proof

open Idealize.ShloMosaic Idealize.SL.Sem

/-- The kernel ends with its arguments as they were and every counter at zero. -/
theorem quiescent_kernel : Cert.quiescent_Kernel (hKernel := Cert.Kernel.Gen.facts) := fun m g _ =>
  (θ_run _ _ _).mono (fun _ h => ⟨fun c => ⟨(h.1 c).1, (h.1 c).2.1⟩, h.2⟩) (Cert.Kernel.Hand.run (F := Bits) m g)

/-- So does the kernel over the extended reals, -/
theorem quiescent_kernelIdeal : Cert.quiescent_KernelIdeal (hKernelIdeal := Cert.KernelIdeal.Gen.facts) := fun m g _ =>
  (θ_run _ _ _).mono (fun _ h => ⟨fun c => ⟨(h.1 c).1, (h.1 c).2.1⟩, h.2⟩) (Cert.KernelIdeal.Hand.run (F := Ideal) m g)

/-- and the reference. -/
theorem quiescent_referenceIdeal : Cert.quiescent_ReferenceIdeal (hReferenceIdeal := Cert.ReferenceIdeal.Gen.facts) := fun m g _ =>
  (θ_run _ _ _).mono (fun _ h => ⟨fun c => (h.1 c).2, h.2⟩) (Cert.ReferenceIdeal.Hand.run (F := Ideal) m g)

/-- From equal points the kernel's result is the reference's. -/
theorem result_eq (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Hand.out (F := Ideal) (Cert.ReferenceIdeal.Hand.pts m' c) 2047
      = Cert.KernelIdeal.Hand.W5 m g c (Proc.devRef .tc Cert.KernelIdeal.main_v24) := by
  funext i
  obtain ⟨b, t, rfl⟩ : ∃ (b : Fin 4) (t : Fin 2048), i = ix2 b t := ⟨i 0, i 1, eq_ix2 i⟩
  refine (Cert.ReferenceIdeal.Hand.result_apply _ b t).trans (Eq.trans ?_ (Cert.KernelIdeal.Hand.value_apply m g c b t).symm)
  refine congrArg (fun p => Cert.Spec.res p t.val) ?_
  funext n a
  exact congrFun h (ix3 b n a)

/-- The kernel and the reference compute the same indices over the extended reals. -/
theorem algebraic : Cert.algebraic_KernelIdeal_ReferenceIdeal (hKernelIdeal := Cert.KernelIdeal.Gen.facts)
    (hReferenceIdeal := Cert.ReferenceIdeal.Gen.facts) := fun m g m' g' _ hm =>
  ⟨fun c => Cert.KernelIdeal.Hand.W5 m g c (Proc.devRef .tc Cert.KernelIdeal.main_v24),
    (θ_run _ _ _).mono (fun _ h c => ⟨(h.1 c).2.2, (h.1 c).1, (h.1 c).2.1⟩) (Cert.KernelIdeal.Hand.run (F := Ideal) m g),
    (θ_run _ _ _).mono (fun _ h c => ⟨(h.1 c).1.trans (result_eq m g m' c (hm c).1), (h.1 c).2⟩)
      (Cert.ReferenceIdeal.Hand.run (F := Ideal) m' g')⟩

theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
